-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_set_up [hPre_as_set_up : Cert.Pre_as_set_up.Facts] (m : (ℓ : Loc Cert.KernelIdeal.nD Cert.KernelIdeal.τ Cert.KernelIdeal.sig) → Buf (Elt Ideal) ℓ) : Prop :=
  ∀ c : Dev Cert.KernelIdeal.nD,
    (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_set_up [hPre_as_set_up : Cert.Pre_as_set_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_as_set_up [hKernelIdeal : Cert.KernelIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_set_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_as_set_up [hReferenceIdeal : Cert.ReferenceIdeal.Facts] [hPre_as_set_up : Cert.Pre_as_set_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_set_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "w_grad" .f32 0x2F835419#32 ((72057593501057 / 301641159093298588024832 : ℝ) : EReal)

def algebraic_KernelIdeal_ReferenceIdeal_pre_as_set_up [hKernelIdeal : Cert.KernelIdeal.Facts] [hReferenceIdeal : Cert.ReferenceIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_set_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_as_set_up : Cert.Pre_as_set_up.Facts),
    quiescent_Kernel (hKernel := hKernel)
    ∧ quiescent_KernelIdeal (hKernelIdeal := hKernelIdeal)
    ∧ quiescent_KernelIdeal_pre_as_set_up (hKernelIdeal := hKernelIdeal) (hPre_as_set_up := hPre_as_set_up)
    ∧ quiescent_ReferenceIdeal (hReferenceIdeal := hReferenceIdeal)
    ∧ quiescent_ReferenceIdeal_pre_as_set_up (hReferenceIdeal := hReferenceIdeal) (hPre_as_set_up := hPre_as_set_up)
    ∧ preserves_Kernel_KernelIdeal
    ∧ algebraic_KernelIdeal_ReferenceIdeal_pre_as_set_up (hKernelIdeal := hKernelIdeal) (hReferenceIdeal := hReferenceIdeal) (hPre_as_set_up := hPre_as_set_up)
-- ==== Pre_as_set_up.lean ====
abbrev S16x512x512 : Shape := ⟨3, ![16, 512, 512]⟩
abbrev S16x64x64 : Shape := ⟨3, ![16, 64, 64]⟩
abbrev S262144 : Shape := ⟨1, ![262144]⟩
abbrev S_ : Shape := ⟨0, ![]⟩

class Facts : Prop where
  bcast_S_S262144 : S_.BroadcastsInDim S262144 (![] : Fin 0 → Fin S262144.rank)

variable [Facts]

def fn {F : FTy → Type} [FloatOps F] (main_arg0 : FVec F S16x512x512 .f32) (main_arg1 : FVec F S16x512x512 .f32) (main_arg2 : FVec F S16x512x512 .f32) (main_arg3 : FVec F S16x64x64 .f32) (main_arg4 : IVec S16x512x512 1) (main_arg5 : IVec S16x64x64 1) (main_arg6 : IVec S262144 32) (main_arg7 : IVec S262144 32) (main_arg8 : FVec F S262144 .f32) : IVec S16x512x512 1 × IVec S16x64x64 1 × IVec S262144 1 × IVec S262144 1 × IVec S262144 1 :=
  let main_v0 : IVec S262144 32 := iotaInDim S262144 32 0
  let main_c : IVec S_ 32 := constantI S_ 32 512#32
  let main_v1 : IVec S262144 32 := broadcastInDim S262144 ![] bcast_S_S262144 main_c
  let main_v2 : IVec S262144 32 := Host.divsi main_v0 main_v1
  let main_c_0 : IVec S_ 32 := constantI S_ 32 8#32
  let main_v3 : IVec S262144 32 := broadcastInDim S262144 ![] bcast_S_S262144 main_c_0
  let main_v4 : IVec S262144 32 := Host.divsi main_v2 main_v3
  let main_c_1 : IVec S_ 32 := constantI S_ 32 64#32
  let main_v5 : IVec S262144 32 := broadcastInDim S262144 ![] bcast_S_S262144 main_c_1
  let main_v6 : IVec S262144 32 := muli main_v4 main_v5
  let main_c_2 : IVec S_ 32 := constantI S_ 32 512#32
  let main_v7 : IVec S262144 32 := broadcastInDim S262144 ![] bcast_S_S262144 main_c_2
  let main_v8 : IVec S262144 32 := Host.remsi main_v0 main_v7
  let main_c_3 : IVec S_ 32 := constantI S_ 32 8#32
  let main_v9 : IVec S262144 32 := broadcastInDim S262144 ![] bcast_S_S262144 main_c_3
  let main_v10 : IVec S262144 32 := Host.divsi main_v8 main_v9
  let main_v11 : IVec S262144 32 := addi main_v6 main_v10
  let main_v12 : IVec S262144 1 := cmpi .eq main_arg6 main_v11
  let main_v13 : IVec S262144 1 := cmpi .eq main_arg7 main_v0
  let main_cst : FVec F S_ .f32 := constant S_ .f32 0x3C800000#32
  let main_v14 : FVec F S262144 .f32 := broadcastInDim S262144 ![] bcast_S_S262144 main_cst
  let main_v15 : IVec S262144 1 := cmpf .oeq main_arg8 main_v14
  (main_arg4, main_arg5, main_v12, main_v13, main_v15)
-- ==== Kernel.lean ====
abbrev S16x512x512 : Shape := ⟨3, ![16, 512, 512]⟩
abbrev S16x64x64 : Shape := ⟨3, ![16, 64, 64]⟩
abbrev S262144 : Shape := ⟨1, ![262144]⟩
abbrev S512x64 : Shape := ⟨2, ![512, 64]⟩
abbrev S256x2048 : Shape := ⟨2, ![256, 2048]⟩
abbrev S_ : Shape := ⟨0, ![]⟩
abbrev S8192x512 : Shape := ⟨2, ![8192, 512]⟩
abbrev S1024x64 : Shape := ⟨2, ![1024, 64]⟩
abbrev S1x1 : Shape := ⟨2, ![1, 1]⟩
abbrev S2048x512 : Shape := ⟨2, ![2048, 512]⟩
abbrev S256x64 : Shape := ⟨2, ![256, 64]⟩
abbrev S1x2048x512 : Shape := ⟨3, ![1, 2048, 512]⟩
abbrev S1 : Shape := ⟨1, ![1]⟩
abbrev S1x1x1 : Shape := ⟨3, ![1, 1, 1]⟩
abbrev S2048x64 : Shape := ⟨2, ![2048, 64]⟩
abbrev S1x256x64 : Shape := ⟨3, ![1, 256, 64]⟩

abbrev nBuf : Space → Nat
  | .hbm => 27
  | .vmem => 11
  | .smem => 0
  | _ => 0

abbrev bufTy : (tb : Table) → Fin (tcTables nBuf tb) → BufTy
  | .hbm, ⟨0, _⟩ => ⟨S16x512x512, .f32⟩
  | .hbm, ⟨1, _⟩ => ⟨S16x512x512, .f32⟩
  | .hbm, ⟨2, _⟩ => ⟨S16x512x512, .f32⟩
  | .hbm, ⟨3, _⟩ => ⟨S16x64x64, .f32⟩
  | .hbm, ⟨4, _⟩ => ⟨S16x512x512, .i1⟩
  | .hbm, ⟨5, _⟩ => ⟨S16x64x64, .i1⟩
  | .hbm, ⟨6, _⟩ => ⟨S262144, .i32⟩
  | .hbm, ⟨7, _⟩ => ⟨S262144, .i32⟩
  | .hbm, ⟨8, _⟩ => ⟨S262144, .f32⟩
  | .hbm, ⟨9, _⟩ => ⟨S512x64, .bf16⟩
  | .hbm, ⟨10, _⟩ => ⟨S256x2048, .i32⟩
  | .hbm, ⟨11, _⟩ => ⟨S256x2048, .i32⟩
  | .hbm, ⟨12, _⟩ => ⟨S_, .i32⟩
  | .hbm, ⟨13, _⟩ => ⟨S256x2048, .i32⟩
  | .hbm, ⟨14, _⟩ => ⟨S256x2048, .i32⟩
  | .hbm, ⟨15, _⟩ => ⟨S256x2048, .i1⟩
  | .hbm, ⟨16, _⟩ => ⟨S_, .bf16⟩
  | .hbm, ⟨17, _⟩ => ⟨S256x2048, .bf16⟩
  | .hbm, ⟨18, _⟩ => ⟨S_, .bf16⟩
  | .hbm, ⟨19, _⟩ => ⟨S256x2048, .bf16⟩
  | .hbm, ⟨20, _⟩ => ⟨S256x2048, .bf16⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S1024x64, .f32⟩
  | .hbm, ⟨25, _⟩ => ⟨S1x1, .f32⟩
  | .hbm, ⟨26, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S256x64, .f32⟩
  | .local _ .vmem, ⟨7, _⟩ => ⟨S256x64, .f32⟩
  | .local _ .vmem, ⟨8, _⟩ => ⟨S512x64, .bf16⟩
  | .local _ .vmem, ⟨9, _⟩ => ⟨S256x2048, .bf16⟩
  | .local _ .vmem, ⟨10, _⟩ => ⟨S1x1, .f32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "w_grad" => some ((72057593501057 / 301641159093298588024832 : ℝ) : EReal)
  | _ => none
-- ==== ReferenceIdeal.lean ====
abbrev S16x512x512 : Shape := ⟨3, ![16, 512, 512]⟩
abbrev S16x64x64 : Shape := ⟨3, ![16, 64, 64]⟩
abbrev S262144 : Shape := ⟨1, ![262144]⟩
abbrev S_ : Shape := ⟨0, ![]⟩
abbrev S16x262144 : Shape := ⟨2, ![16, 262144]⟩
abbrev S262144x1 : Shape := ⟨2, ![262144, 1]⟩
abbrev S1 : Shape := ⟨1, ![1]⟩
abbrev S1x1 : Shape := ⟨2, ![1, 1]⟩
abbrev S262144x16 : Shape := ⟨2, ![262144, 16]⟩
abbrev S4096x16 : Shape := ⟨2, ![4096, 16]⟩
abbrev S16x4096 : Shape := ⟨2, ![16, 4096]⟩
abbrev S16x511x512 : Shape := ⟨3, ![16, 511, 512]⟩
abbrev S16x512x511 : Shape := ⟨3, ![16, 512, 511]⟩

abbrev nBuf : Space → Nat
  | .hbm => 120
  | .vmem => 0
  | .smem => 0
  | _ => 0

abbrev bufTy : (tb : Table) → Fin (tcTables nBuf tb) → BufTy
  | .hbm, ⟨0, _⟩ => ⟨S16x512x512, .f32⟩
  | .hbm, ⟨1, _⟩ => ⟨S16x512x512, .f32⟩
  | .hbm, ⟨2, _⟩ => ⟨S16x512x512, .f32⟩
  | .hbm, ⟨3, _⟩ => ⟨S16x64x64, .f32⟩
  | .hbm, ⟨4, _⟩ => ⟨S16x512x512, .i1⟩
  | .hbm, ⟨5, _⟩ => ⟨S16x64x64, .i1⟩
  | .hbm, ⟨6, _⟩ => ⟨S262144, .i32⟩
  | .hbm, ⟨7, _⟩ => ⟨S262144, .i32⟩
  | .hbm, ⟨8, _⟩ => ⟨S262144, .f32⟩
  | .hbm, ⟨9, _⟩ => ⟨S16x512x512, .f32⟩
  | .hbm, ⟨10, _⟩ => ⟨S16x512x512, .f32⟩
  | .hbm, ⟨11, _⟩ => ⟨S16x512x512, .f32⟩
  | .hbm, ⟨12, _⟩ => ⟨S16x512x512, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16x512x512, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16x262144, .f32⟩
  | .hbm, ⟨22, _⟩ => ⟨S_, .i32⟩
  | .hbm, ⟨23, _⟩ => ⟨S262144, .i32⟩
  | .hbm, ⟨24, _⟩ => ⟨S262144, .i1⟩
  | .hbm, ⟨25, _⟩ => ⟨S_, .i32⟩
  | .hbm, ⟨26, _⟩ => ⟨S262144, .i32⟩
  | .hbm, ⟨27, _⟩ => ⟨S262144, .i32⟩
  | .hbm, ⟨28, _⟩ => ⟨S262144, .i32⟩
  | .hbm, ⟨29, _⟩ => ⟨S262144x1, .i32⟩
  | .hbm, ⟨30, _⟩ => ⟨S1, .i32⟩
  | .hbm, ⟨31, _⟩ => ⟨S_, .i32⟩
  | .hbm, ⟨32, _⟩ => ⟨S262144x1, .i32⟩
  | .hbm, ⟨33, _⟩ => ⟨S262144x1, .i1⟩
  | .hbm, ⟨34, _⟩ => ⟨S1x1, .i32⟩
  | .hbm, ⟨35, _⟩ => ⟨S262144x1, .i32⟩
  | .hbm, ⟨36, _⟩ => ⟨S262144x1, .i1⟩
  | .hbm, ⟨37, _⟩ => ⟨S262144x1, .i1⟩
  | .hbm, ⟨38, _⟩ => ⟨S_, .i1⟩
  | .hbm, ⟨39, _⟩ => ⟨S262144, .i1⟩
  | .hbm, ⟨40, _⟩ => ⟨S16x262144, .f32⟩
  | .hbm, ⟨41, _⟩ => ⟨S16x262144, .i1⟩
  | .hbm, ⟨42, _⟩ => ⟨S_, .f32⟩
  | .hbm, ⟨43, _⟩ => ⟨S16x262144, .f32⟩
  | .hbm, ⟨44, _⟩ => ⟨S16x262144, .f32⟩
  | .hbm, ⟨45, _⟩ => ⟨S262144x16, .f32⟩
  | .hbm, ⟨46, _⟩ => ⟨S262144x1, .f32⟩
  | .hbm, ⟨47, _⟩ => ⟨S262144x16, .f32⟩
  | .hbm, ⟨48, _⟩ => ⟨S262144x16, .f32⟩
  | .hbm, ⟨49, _⟩ => ⟨S_, .f32⟩
  | .hbm, ⟨50, _⟩ => ⟨S4096x16, .f32⟩
  | .hbm, ⟨51, _⟩ => ⟨S262144x1, .i32⟩
  | .hbm, ⟨52, _⟩ => ⟨S4096x16, .f32⟩
  | .hbm, ⟨53, _⟩ => ⟨S16x4096, .f32⟩
  | .hbm, ⟨54, _⟩ => ⟨S16x64x64, .f32⟩
  | .hbm, ⟨55, _⟩ => ⟨S16x64x64, .f32⟩
  | .hbm, ⟨56, _⟩ => ⟨S16x64x64, .f32⟩
  | .hbm, ⟨57, _⟩ => ⟨S16x64x64, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S16x64x64, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S16x512x512, .f32⟩
  | .hbm, ⟨67, _⟩ => ⟨S16x512x512, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S16x512x512, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S16x511x512, .f32⟩
  | .hbm, ⟨77, _⟩ => ⟨S16x511x512, .f32⟩
  | .hbm, ⟨78, _⟩ => ⟨S16x511x512, .f32⟩
  | .hbm, ⟨79, _⟩ => ⟨S16x512x511, .f32⟩
  | .hbm, ⟨80, _⟩ => ⟨S16x512x511, .f32⟩
  | .hbm, ⟨81, _⟩ => ⟨S16x512x511, .f32⟩
  | .hbm, ⟨82, _⟩ => ⟨S16x511x512, .i1⟩
  | .hbm, ⟨83, _⟩ => ⟨S16x511x512, .i1⟩
  | .hbm, ⟨84, _⟩ => ⟨S16x511x512, .i1⟩
  | .hbm, ⟨85, _⟩ => ⟨S16x512x511, .i1⟩
  | .hbm, ⟨86, _⟩ => ⟨S16x512x511, .i1⟩
  | .hbm, ⟨87, _⟩ => ⟨S16x512x511, .i1⟩
  | .hbm, ⟨88, _⟩ => ⟨S16x511x512, .f32⟩
  | .hbm, ⟨89, _⟩ => ⟨S16x511x512, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S16x511x512, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S16x512x511, .f32⟩
  | .hbm, ⟨99, _⟩ => ⟨S16x512x511, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S16x512x511, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_cst_2 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_3 : Ref sig .tc := ⟨.hbm, 58, rfl⟩
abbrev main_v23 : Ref sig .tc := ⟨.hbm, 59, rfl⟩
abbrev main_cst_4 : Ref sig .tc := ⟨.hbm, 60, rfl⟩
abbrev main_v24 : Ref sig .tc := ⟨.hbm, 61, rfl⟩
abbrev main_v25 : Ref sig .tc := ⟨.hbm, 62, rfl⟩
abbrev main_cst_5 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_6 : Ref sig .tc := ⟨.hbm, 68, rfl⟩
abbrev main_v30 : Ref sig .tc := ⟨.hbm, 69, rfl⟩
abbrev main_cst_7 : Ref sig .tc := ⟨.hbm, 70, rfl⟩
abbrev main_v31 : Ref sig .tc := ⟨.hbm, 71, rfl⟩
abbrev main_v32 : Ref sig .tc := ⟨.hbm, 72, rfl⟩
abbrev main_cst_8 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_cst_9 : Ref sig .tc := ⟨.hbm, 90, rfl⟩
abbrev main_v49 : Ref sig .tc := ⟨.hbm, 91, rfl⟩
abbrev main_cst_10 : Ref sig .tc := ⟨.hbm, 92, rfl⟩
abbrev main_v50 : Ref sig .tc := ⟨.hbm, 93, rfl⟩
abbrev main_v51 : Ref sig .tc := ⟨.hbm, 94, rfl⟩
abbrev main_cst_11 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_12 : Ref sig .tc := ⟨.hbm, 100, rfl⟩
abbrev main_v56 : Ref sig .tc := ⟨.hbm, 101, rfl⟩
abbrev main_cst_13 : Ref sig .tc := ⟨.hbm, 102, rfl⟩
abbrev main_v57 : Ref sig .tc := ⟨.hbm, 103, rfl⟩
abbrev main_v58 : Ref sig .tc := ⟨.hbm, 104, rfl⟩
abbrev main_cst_14 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_15 : Ref sig .tc := ⟨.hbm, 109, rfl⟩
abbrev main_v62 : Ref sig .tc := ⟨.hbm, 110, rfl⟩
abbrev main_v63 : Ref sig .tc := ⟨.hbm, 111, rfl⟩
abbrev main_cst_16 : Ref sig .tc := ⟨.hbm, 112, rfl⟩
abbrev main_v64 : Ref sig .tc := ⟨.hbm, 113, rfl⟩
abbrev main_cst_17 : Ref sig .tc := ⟨.hbm, 114, rfl⟩
abbrev main_v65 : Ref sig .tc := ⟨.hbm, 115, rfl⟩
abbrev main_v66 : Ref sig .tc := ⟨.hbm, 116, rfl⟩
abbrev main_cst_18 : Ref sig .tc := ⟨.hbm, 117, rfl⟩
abbrev main_v67 : Ref sig .tc := ⟨.hbm, 118, rfl⟩
abbrev main_v68 : Ref sig .tc := ⟨.hbm, 119, rfl⟩

abbrev nD : Nat := 1
abbrev τ : Topo := Topo.v7x

variable {F : FTy → Type} [FloatOps F]
-- ==== Proof.P.Body.lean ====
/-
  The kernel at machine words, point by point (hand-written): the body's triple, what the scalar accumulator holds after each
  grid point, the pipeline's proof data and its body obligation, and the frame. What the numbers are is not asked here: the
  ideal program's modules say that.
-/
module

public import proofs.«01_k».proof.Proof.Gen.Kernel.Frame
public import proofs.«01_k».proof.Proof.Gen.Kernel.Skeleton
public import Idealize.ShloMosaic.Lib.Pipeline.Value
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- What one point stores in the accumulator, from the point's coordinate word, its six blocks and what the accumulator
    held. -/
def stepVal (a0 : BitVec 32) (x0 x1 x2 : Vec F S2048x512 .f32) (x3 : Vec F S256x64 .f32) (x4 : Vec F S512x64 .bf16)
    (x5 : Vec F S256x2048 .bf16) (x6 : Vec F S1x1 .f32) : Vec F S1x1 .f32 :=
  k0_pay1 a0 (k0_pay2 x0) (k0_pay3 x0 x1 x2) x4 x5 x3 x6

/-- One covering store through a whole memref leaves its payload. -/
theorem read_store_whole (arg7 : Memref sig .tc .vmem S1x1 .f32) (f : arg7.view.ty.Contents (Elt F)) (w : Vec F S1x1 .f32) :
    arg7.view.read (Elt F) (arg7.view.writes (Elt F) f [⟨Rect.unit (s := S1x1) ![0, 0] S1x1.size inb_S1x1_S1x1_0_0, w⟩]) = w := by
  rw [View.read_writes_eq_canon _ _ _ (fun y => ⟨_, List.mem_singleton.mpr rfl, by
    rw [Rect.mem_set_unit]; intro a; have := (y a).isLt
    refine ⟨by fin_cases a <;> exact Nat.zero_le _, ?_⟩
    fin_cases a <;> simpa using this⟩), View.canon_unit_zero hz]

set_option maxHeartbeats 1000000 in
/-- The body's triple: on whole staging memrefs, the inputs' at their contents and the accumulator's at `x6`, the body
    runs to the continuation holding the inputs' as they were and the accumulator's at `stepVal`. -/
theorem bodyRun (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x64 .f32) (harg4 : arg4.IsWhole) (arg5 : Memref sig .tc .vmem S512x64 .bf16) (harg5 : arg5.IsWhole) (arg6 : Memref sig .tc .vmem S256x2048 .bf16) (harg6 : arg6.IsWhole) (arg7 : Memref sig .tc .vmem S1x1 .f32) (harg7 : arg7.IsWhole)
    (x0 : Vec F S2048x512 .f32) (x1 : Vec F S2048x512 .f32) (x2 : Vec F S2048x512 .f32) (x3 : Vec F S256x64 .f32) (x4 : Vec F S512x64 .bf16) (x5 : Vec F S256x2048 .bf16) (x6 : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ owns (c : Thread nD τ) arg7 fullShare (stepVal (BitVec.ofNat 32 (i 0).val) x0 x1 x2 x3 x4 x5 x6)) -∗ K ⟨⟩))
          ⊢ wp frame (wpE (defs₀ (F := F)) Variants.none c none) E (cc0__loss_kernel i arg1 harg1 arg2 harg2 arg3 harg3 arg4 harg4 arg5 harg5 arg6 harg6 arg7 harg7) K := by
    intro E K
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; isplitr; swap; · iexact H6
    ipureintro
    rw [read_store_whole]
    unfold stepVal
    delta bodyRun.sl.r bodyRun.sl.r_1
    simp only [View.readAt_eq_ld, harg1.read_unread, harg2.read_unread, harg3.read_unread, harg4.read_unread, harg5.read_unread, harg6.read_unread, harg7.read_unread,
      View.ld_unit_zero (S := S2048x512) hz, View.ld_unit_zero (S := S256x64) hz, View.ld_unit_zero (S := S512x64) hz, View.ld_unit_zero (S := S256x2048) hz, View.ld_unit_zero (S := S1x1) hz]

/-! ## What the accumulator holds after each point -/

/-- One point's store over the blocks the region finds. -/
def stepAt (c : Dev nD) (t : Fin cfg0.N) (prev : Vec F S1x1 .f32) : Vec F S1x1 .f32 :=
  stepVal (BitVec.ofNat 32 (grid0.coords t 0).val) (iblk m c 0 t) (iblk m c 1 t) (iblk m c 2 t) (iblk m c 3 t) (iblk m c 4 t) (iblk m c 5 t) prev

/-- The running sum after point `n`. -/
def chain (c : Dev nD) : (n : ℕ) → n < cfg0.N → Vec F S1x1 .f32
  | 0, h => stepAt m c ⟨0, h⟩ (broadcast S1x1 (Scalar.ofBits .f32 0x00000000#32))
  | n + 1, h => stepAt m c ⟨n + 1, h⟩ (chain c n (Nat.lt_of_succ_lt h))

/-- At a zero coordinate word the step does not read what the accumulator held. -/
theorem stepVal_zero (x0 x1 x2 : Vec F S2048x512 .f32) (x3 : Vec F S256x64 .f32) (x4 : Vec F S512x64 .bf16)
    (x5 : Vec F S256x2048 .bf16) (x6 x6' : Vec F S1x1 .f32) : stepVal 0#32 x0 x1 x2 x3 x4 x5 x6 = stepVal 0#32 x0 x1 x2 x3 x4 x5 x6' := by
  unfold stepVal k0_pay1
  rfl

/-! ## The pipeline's proof data -/

/-- The proof data of the one pipeline on core `c`: the arrays as the region finds them; after the body at point `t` each
    input's buffer at its block and the accumulator's at the running sum; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => chain m c t.val t.isLt
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = chain m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- After the first point the accumulator's buffer holds the running sum of the point before. -/
theorem before0_6_succ (c : Dev nD) (n : ℕ) (h : n + 1 < cfg0.N) (d) :
    (dats m 0 c).before 6 ⟨n + 1, h⟩ d = chain m c n (Nat.lt_of_succ_lt h) := by
  have hN : cfg0.N = 4 := N_0
  rw [(dats m 0 c).before_of_pos 6 ⟨n + 1, h⟩ (Nat.succ_ne_zero n) rfl d, if_neg (fun hf => by
    have := (flush0_6 _).mp hf; dsimp only at this; omega)]
  unfold Dat.left
  show (dats m 0 c).kept 6 _ d = _
  unfold Dat.kept
  rw [after0_6]
  exact (cfg0.win 6).fill_cut _ _

/-- The step over whatever the buffer holds at a point leaves the running sum there. -/
theorem step_before (c : Dev nD) (t : Fin cfg0.N) (d) :
    stepAt m c t ((dats m 0 c).before 6 t d) = chain m c t.val t.isLt := by
  obtain ⟨n, h⟩ := t
  cases n with
  | zero =>
    have h0 : BitVec.ofNat 32 (grid0.coords ⟨0, h⟩ 0).val = 0#32 := by
      rw [show (⟨0, h⟩ : Fin grid0.N) = t0_0 from rfl]; decide +kernel
    show stepAt m c ⟨0, h⟩ _ = stepAt m c ⟨0, h⟩ _
    unfold stepAt
    rw [h0]
    exact stepVal_zero (F := F) _ _ _ _ _ _ _ _
  | succ n => rw [before0_6_succ m c n h d, chain]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the triple applies; the accumulator ends at the
    running sum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  rw [← step_before m c t d6]
  iapply ((bodyRun c (grid0.coords t) _ _ _ _ _ _ _ _ _ _ _ _ _ _ (iblk m c 0 t) (iblk m c 1 t) (iblk m c 2 t) (iblk m c 3 t) (iblk m c 4 t) (iblk m c 5 t) ((dats m 0 c).before 6 t d6)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every window's array ends at its proof data's last contents and every other buffer at what the host lines
    leave, and every semaphore counter of the machine is at zero at every final state. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and the semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.Kernel.Hand

end
-- ==== Proof.PI.Body.lean ====
/-
  The kernel's idealization point by point (hand-written): the body's triple, what the scalar accumulator holds after
  each grid point, the pipeline's proof data and its body obligation, the run and the frame.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- What one point stores in the accumulator, from the point's coordinate word, its six blocks and what the accumulator
    held. -/
def stepVal (a0 : BitVec 32) (x0 x1 x2 : Vec F S2048x512 .f32) (x3 : Vec F S256x64 .f32) (x4 : Vec F S512x64 .bf16)
    (x5 : Vec F S256x2048 .bf16) (x6 : Vec F S1x1 .f32) : Vec F S1x1 .f32 :=
  k0_pay1 a0 (k0_pay2 x0) (k0_pay3 x0 x1 x2) x4 x5 x3 x6

/-- One covering store through a whole memref leaves its payload. -/
theorem read_store_whole (arg7 : Memref sig .tc .vmem S1x1 .f32) (f : arg7.view.ty.Contents (Elt F)) (w : Vec F S1x1 .f32) :
    arg7.view.read (Elt F) (arg7.view.writes (Elt F) f [⟨Rect.unit (s := S1x1) ![0, 0] S1x1.size inb_S1x1_S1x1_0_0, w⟩]) = w := by
  rw [View.read_writes_eq_canon _ _ _ (fun y => ⟨_, List.mem_singleton.mpr rfl, by
    rw [Rect.mem_set_unit]; intro a; have := (y a).isLt
    refine ⟨by fin_cases a <;> exact Nat.zero_le _, ?_⟩
    fin_cases a <;> simpa using this⟩), View.canon_unit_zero hz]

set_option maxHeartbeats 1000000 in
/-- The body's triple: on whole staging memrefs, the inputs' at their contents and the accumulator's at `x6`, the body
    runs to the continuation holding the inputs' as they were and the accumulator's at `stepVal`. -/
theorem bodyRun (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x64 .f32) (harg4 : arg4.IsWhole) (arg5 : Memref sig .tc .vmem S512x64 .bf16) (harg5 : arg5.IsWhole) (arg6 : Memref sig .tc .vmem S256x2048 .bf16) (harg6 : arg6.IsWhole) (arg7 : Memref sig .tc .vmem S1x1 .f32) (harg7 : arg7.IsWhole)
    (x0 : Vec F S2048x512 .f32) (x1 : Vec F S2048x512 .f32) (x2 : Vec F S2048x512 .f32) (x3 : Vec F S256x64 .f32) (x4 : Vec F S512x64 .bf16) (x5 : Vec F S256x2048 .bf16) (x6 : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ owns (c : Thread nD τ) arg7 fullShare (stepVal (BitVec.ofNat 32 (i 0).val) x0 x1 x2 x3 x4 x5 x6)) -∗ K ⟨⟩))
          ⊢ wp frame (wpE (defs₀ (F := F)) Variants.none c none) E (cc0__loss_kernel i arg1 harg1 arg2 harg2 arg3 harg3 arg4 harg4 arg5 harg5 arg6 harg6 arg7 harg7) K := by
    intro E K
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; isplitr; swap; · iexact H6
    ipureintro
    rw [read_store_whole]
    unfold stepVal
    delta bodyRun.sl.r bodyRun.sl.r_1
    simp only [View.readAt_eq_ld, harg1.read_unread, harg2.read_unread, harg3.read_unread, harg4.read_unread, harg5.read_unread, harg6.read_unread, harg7.read_unread,
      View.ld_unit_zero (S := S2048x512) hz, View.ld_unit_zero (S := S256x64) hz, View.ld_unit_zero (S := S512x64) hz, View.ld_unit_zero (S := S256x2048) hz, View.ld_unit_zero (S := S1x1) hz]

/-! ## What the accumulator holds after each point -/

/-- One point's store over the blocks the region finds. -/
def stepAt (c : Dev nD) (t : Fin cfg0.N) (prev : Vec F S1x1 .f32) : Vec F S1x1 .f32 :=
  stepVal (BitVec.ofNat 32 (grid0.coords t 0).val) (iblk m c 0 t) (iblk m c 1 t) (iblk m c 2 t) (iblk m c 3 t) (iblk m c 4 t) (iblk m c 5 t) prev

/-- The running sum after point `n`. -/
def chain (c : Dev nD) : (n : ℕ) → n < cfg0.N → Vec F S1x1 .f32
  | 0, h => stepAt m c ⟨0, h⟩ (broadcast S1x1 (Scalar.ofBits .f32 0x00000000#32))
  | n + 1, h => stepAt m c ⟨n + 1, h⟩ (chain c n (Nat.lt_of_succ_lt h))

/-- At a zero coordinate word the step does not read what the accumulator held. -/
theorem stepVal_zero (x0 x1 x2 : Vec F S2048x512 .f32) (x3 : Vec F S256x64 .f32) (x4 : Vec F S512x64 .bf16)
    (x5 : Vec F S256x2048 .bf16) (x6 x6' : Vec F S1x1 .f32) : stepVal 0#32 x0 x1 x2 x3 x4 x5 x6 = stepVal 0#32 x0 x1 x2 x3 x4 x5 x6' := by
  unfold stepVal k0_pay1
  rfl

/-! ## The pipeline's proof data -/

/-- The proof data of the one pipeline on core `c`: the arrays as the region finds them; after the body at point `t` each
    input's buffer at its block and the accumulator's at the running sum; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => chain m c t.val t.isLt
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = chain m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- After the first point the accumulator's buffer holds the running sum of the point before. -/
theorem before0_6_succ (c : Dev nD) (n : ℕ) (h : n + 1 < cfg0.N) (d) :
    (dats m 0 c).before 6 ⟨n + 1, h⟩ d = chain m c n (Nat.lt_of_succ_lt h) := by
  have hN : cfg0.N = 4 := N_0
  rw [(dats m 0 c).before_of_pos 6 ⟨n + 1, h⟩ (Nat.succ_ne_zero n) rfl d, if_neg (fun hf => by
    have := (flush0_6 _).mp hf; dsimp only at this; omega)]
  unfold Dat.left
  show (dats m 0 c).kept 6 _ d = _
  unfold Dat.kept
  rw [after0_6]
  exact (cfg0.win 6).fill_cut _ _

/-- The step over whatever the buffer holds at a point leaves the running sum there. -/
theorem step_before (c : Dev nD) (t : Fin cfg0.N) (d) :
    stepAt m c t ((dats m 0 c).before 6 t d) = chain m c t.val t.isLt := by
  obtain ⟨n, h⟩ := t
  cases n with
  | zero =>
    have h0 : BitVec.ofNat 32 (grid0.coords ⟨0, h⟩ 0).val = 0#32 := by
      rw [show (⟨0, h⟩ : Fin grid0.N) = t0_0 from rfl]; decide +kernel
    show stepAt m c ⟨0, h⟩ _ = stepAt m c ⟨0, h⟩ _
    unfold stepAt
    rw [h0]
    exact stepVal_zero (F := F) _ _ _ _ _ _ _ _
  | succ n => rw [before0_6_succ m c n h d, chain]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the triple applies; the accumulator ends at the
    running sum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  rw [← step_before m c t d6]
  iapply ((bodyRun c (grid0.coords t) _ _ _ _ _ _ _ _ _ _ _ _ _ _ (iblk m c 0 t) (iblk m c 1 t) (iblk m c 2 t) (iblk m c 3 t) (iblk m c 4 t) (iblk m c 5 t) ((dats m 0 c).before 6 t d6)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every window's array ends at its proof data's last contents and every other buffer at what the host lines
    leave, and every semaphore counter of the machine is at zero at every final state. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and the semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

/-! ## The result array -/

/-- The running sum after the last point, as contents of the kernel's result array. -/
abbrev result (c : Dev nD) : Buf (Elt F) ((c : Thread nD τ).loc main_v12) := chain m c 3 (by rw [show cfg0.N = 4 from N_0]; decide)

/-- The one write-back, at point 3, writes it. -/
theorem flushed_eq (c : Dev nD) (t : Fin cfg0.N) (hf : (cfg0.win 6).flush t = true) :
    (dats m 0 c).flushed 6 t = ((cfg0.win 6).blk t).view.read (Elt F) (result m c) := by
  have hN : cfg0.N = 4 := N_0
  have h3 : t.val = 3 := by have := (flush0_6 t).mp hf; have := t.isLt; omega
  obtain rfl : t = t0_3 := Fin.ext h3
  show (cfg0.win 6).cut (grid0.coords t0_3) ((dats m 0 c).after 6 t0_3) = _
  rw [after0_6]
  have hz' : (fun a => win0_6.index t0_3 a * main_v12.ty.shape.size a) = fun _ => 0 := funext fun a => by fin_cases a <;> decide
  exact (Memref.read_access_unit_zero (Elt F) main_v12 hz' (fun a => by rw [congrFun hz' a]; simp) (result m c)).symm

/-- So the result array ends holding the running sum after point 3. -/
theorem final_o (c : Dev nD) : (dats m 0 c).arrAt 6 cfg0.N = result m c :=
  (dats m 0 c).arrAt_eq_of_cover 6 (result m c) (flushed_eq m c) fun i =>
    ⟨t0_3, (flush0_6 t0_3).mpr rfl, by
      show i ∈ ((View.whole main_v12).slice (win0_6.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_6.index t0_3 0 * win0_6.size 0 ≤ (i 0 : Nat) ∧ (i 0 : Nat) < win0_6.index t0_3 0 * win0_6.size 0 + win0_6.xsize (grid0.coords t0_3) 0
                  rw [show win0_6.index t0_3 0 * win0_6.size 0 = 0 from by decide +kernel, show win0_6.xsize (grid0.coords t0_3) 0 = 1 from by decide +kernel]; omega
      | ⟨1, _⟩ => show win0_6.index t0_3 1 * win0_6.size 1 ≤ (i 1 : Nat) ∧ (i 1 : Nat) < win0_6.index t0_3 1 * win0_6.size 1 + win0_6.xsize (grid0.coords t0_3) 1
                  rw [show win0_6.index t0_3 1 * win0_6.size 1 = 0 from by decide +kernel, show win0_6.xsize (grid0.coords t0_3) 1 = 1 from by decide +kernel]; omega⟩

/-- The scalar result of @main: the running sum reshaped. -/
theorem W_main_v13 (c : Dev nD) : Pipeline.afterTail₀ cfgs (dats m) 0 (V0 m) [hostOps1] c main_v13
    = shapeCast S_ (result m c) shapeCasts_S1x1_S_ := by
  rw [← final_o m c]
  unfold Pipeline.afterTail₀
  simp only [hostOps1, List.flatten_cons, List.flatten_nil, List.append_nil]
  show (StableHlo.after _ _) _ = _
  after_results
  exact congrArg (fun v : Vec F S1x1 .f32 => shapeCast S_ v shapeCasts_S1x1_S_)
    ((dats m 0 c).withArrays_arrAt (Pipeline.SharedIn.of_injective winFacts0.arr_inj) (V0 m c) (A_eq m c) 6)

/-- The run, read: @main's result, the arguments unchanged. -/
theorem run : θ_run defs (onTc (τ := τ) (main (F := F))) ⟨m, fun _ => 0, ρ⟩ fun r => ∀ c : Dev nD,
      r.2.mem ((c.tc : Thread nD τ).loc main_v13) = shapeCast S_ (result m c) shapeCasts_S1x1_S_ :=
  (θ_run defs _ _).mono (fun _ h c => ((h c).2 main_v13 (Pipeline.mem_restRefs_of main_v13 (by decide) (by decide))).trans (W_main_v13 m c))
    (run_main m ρ)

end Cert.KernelIdeal.Hand

end
-- ==== Proof.Loss.Spec.lean ====
/-
  The loss as plain sums of extended reals (hand-written): the four sums of squares, the loss as their weighted sum,
  and the two arrangements of it that the kernel and the reference compute.
-/
module

public import Mathlib.Data.EReal.Operations
public import Mathlib.Data.EReal.Inv
public import Mathlib.Algebra.BigOperators.Fin
public import Mathlib.Tactic.NormNum
public import Mathlib.Tactic.Ring
public import Mathlib.Tactic.FinCases

@[expose] public section

noncomputable section

namespace Cert.Loss

open scoped BigOperators

/-- A field of 16 fine images. -/
abbrev Fine := Fin 16 → Fin 512 → Fin 512 → EReal
/-- A field of 16 coarse images. -/
abbrev Coarse := Fin 16 → Fin 64 → Fin 64 → EReal

/-! ## The weights -/

/-- The weight of one squared observation misfit. -/
def cW : EReal := ((1 / 4194304 : ℝ) : EReal)
/-- The weight of one squared coarse misfit. -/
def cC : EReal := ((10 / 65536 : ℝ) : EReal)
/-- The weight of one squared amplitude. -/
def cA : EReal := ((5368709 / 536870912 / 4194304 : ℝ) : EReal)
/-- The weight of one squared difference. -/
def cG : EReal := ((72057593501057 / 301641159093298588024832 : ℝ) : EReal)

/-! ## The sums -/

/-- The average of `p` over the 8 × 8 block `(ci, cj)` of image `b`: the sum over the image of `p / 64` inside the block
    and zero outside. -/
def blockAvg (p : Fine) (b : Fin 16) (ci cj : Fin 64) : EReal :=
  ∑ i : Fin 512, ∑ j : Fin 512, if i.val / 8 = ci.val ∧ j.val / 8 = cj.val then p b i j * ((1 / 64 : ℝ) : EReal) else 0

/-- One observation misfit. -/
def misfit (p r w : Fine) (b : Fin 16) (i j : Fin 512) : EReal := w b i j - (r b i j - p b i j)
/-- One coarse misfit. -/
def coarseMisfit (p : Fine) (o : Coarse) (b : Fin 16) (ci cj : Fin 64) : EReal := blockAvg p b ci cj - o b ci cj
/-- One difference down the rows. -/
def dLat (r : Fine) (b : Fin 16) (i : Fin 511) (j : Fin 512) : EReal := r b i.succ j - r b i.castSucc j
/-- One difference along the columns. -/
def dLon (r : Fine) (b : Fin 16) (i : Fin 512) (j : Fin 511) : EReal := r b i j.succ - r b i j.castSucc

def sumW (p r w : Fine) : EReal := ∑ b, ∑ i, ∑ j, misfit p r w b i j * misfit p r w b i j
def sumC (p : Fine) (o : Coarse) : EReal := ∑ b, ∑ i, ∑ j, coarseMisfit p o b i j * coarseMisfit p o b i j
def sumA (r : Fine) : EReal := ∑ b, ∑ i, ∑ j, r b i j * r b i j
def sumLat (r : Fine) : EReal := ∑ b, ∑ i, ∑ j, dLat r b i j * dLat r b i j
def sumLon (r : Fine) : EReal := ∑ b, ∑ i, ∑ j, dLon r b i j * dLon r b i j

/-- The loss. -/
def loss (p r w : Fine) (o : Coarse) : EReal :=
  cW * sumW p r w + cC * sumC p o + cA * sumA r + cG * sumLat r + cG * sumLon r

/-! ## Extended-real algebra -/

/-- A finite weight that is not negative goes over a sum. -/
theorem mul_add' {k : ℝ} (hk : 0 ≤ k) (x y : EReal) : (k : EReal) * (x + y) = k * x + k * y :=
  EReal.left_distrib_of_nonneg_of_ne_top (EReal.coe_nonneg.mpr hk) (EReal.coe_ne_top k) x y

/-- A finite weight that is not negative goes into a finite sum. -/
theorem mul_sum' {k : ℝ} (hk : 0 ≤ k) {ι : Type*} (s : Finset ι) (f : ι → EReal) : (k : EReal) * ∑ i ∈ s, f i = ∑ i ∈ s, (k : EReal) * f i := by
  classical
  induction s using Finset.induction_on with
  | empty => simp
  | insert a s ha ih => rw [Finset.sum_insert ha, Finset.sum_insert ha, mul_add' hk, ih]

/-- The two spellings of the misfit agree up to order. -/
theorem misfit_eq (p r w : EReal) : w - r + p = w - (r - p) ∨ (w - r + p) * (w - r + p) = (w - (r - p)) * (w - (r - p)) := by
  induction w <;> induction r <;> induction p <;> first
    | (right; rfl)
    | (left; simp [sub_eq_add_neg]; done)
    | (right; simp [sub_eq_add_neg]; done)
    | (left; norm_cast; ring)

/-- Their squares are equal. -/
theorem misfit_sq (p r w : EReal) : (w - r + p) * (w - r + p) = (w - (r - p)) * (w - (r - p)) := by
  rcases misfit_eq p r w with h | h
  · rw [h]
  · exact h

/-- A sum over `m * n` numbers is the double sum over quotient and remainder. -/
theorem sum_mul_eq {M : Type*} [AddCommMonoid M] (m n N : ℕ) (h : N = m * n) (f : Fin N → M) :
    ∑ y, f y = ∑ a : Fin m, ∑ b : Fin n, f ⟨a.val * n + b.val, by
      subst h; have := a.isLt; have := b.isLt; nlinarith⟩ := by
  subst h
  rw [← finProdFinEquiv.sum_comp f, Fintype.sum_prod_type]
  refine Finset.sum_congr rfl fun a _ => Finset.sum_congr rfl fun b _ => congrArg f (Fin.ext ?_)
  show b.val + n * a.val = a.val * n + b.val
  rw [Nat.mul_comm, Nat.add_comm]

/-! ## The reference's arrangement -/

/-- The weighted means, as the reference combines them, are the loss. -/
theorem ref_eq (sW sC sA sLat sLon : EReal) :
    1 * (sW * ((1 / 4194304 : ℝ) : EReal)) + ((10 : ℝ) : EReal) * (sC * ((1 / 65536 : ℝ) : EReal))
      + ((5368709 / 536870912 : ℝ) : EReal) * (sA * ((1 / 4194304 : ℝ) : EReal)
        + ((13421773 / 134217728 : ℝ) : EReal) * (sLat * ((1 / 4186112 : ℝ) : EReal) + sLon * ((1 / 4186112 : ℝ) : EReal)))
      = cW * sW + cC * sC + cA * sA + cG * sLat + cG * sLon := by
  have e1 : ((10 : ℝ) : EReal) * (sC * ((1 / 65536 : ℝ) : EReal)) = cC * sC := by
    rw [mul_comm sC, ← mul_assoc, ← EReal.coe_mul]; norm_num [cC]
  have e2 : ((5368709 / 536870912 : ℝ) : EReal) * (sA * ((1 / 4194304 : ℝ) : EReal)) = cA * sA := by
    rw [mul_comm sA, ← mul_assoc, ← EReal.coe_mul]; norm_num [cA]
  have e3 : ∀ s : EReal, ((5368709 / 536870912 : ℝ) : EReal) * (((13421773 / 134217728 : ℝ) : EReal) * (s * ((1 / 4186112 : ℝ) : EReal))) = cG * s := fun s => by
    rw [mul_comm s, ← mul_assoc, ← mul_assoc, ← EReal.coe_mul, ← EReal.coe_mul]; norm_num [cG]
  rw [mul_add' (by norm_num), mul_add' (by norm_num), mul_add' (by norm_num), e1, e2, e3, e3, one_mul, mul_comm sW]
  rw [add_assoc, add_assoc, add_assoc, add_assoc]
  rfl

/-! ## The kernel's arrangement -/

/-- The kernel's masked difference down the rows: zero at an image's last row. -/
def gLat (r : Fine) (b : Fin 16) (i j : Fin 512) : EReal := if h : i.val < 511 then r b ⟨i.val + 1, by omega⟩ j - r b i j else 0
/-- The kernel's masked difference along the columns: zero at the last column. -/
def gLon (r : Fine) (b : Fin 16) (i j : Fin 512) : EReal := if h : j.val < 511 then r b i ⟨j.val + 1, by omega⟩ - r b i j else 0

/-- The kernel's sum over one image of the fine terms. -/
def imgFine (p r w : Fine) (b : Fin 16) : EReal :=
  ∑ i, ∑ j, (cW * ((w b i j - r b i j + p b i j) * (w b i j - r b i j + p b i j)) + cA * (r b i j * r b i j)
    + cG * (gLat r b i j * gLat r b i j) + cG * (gLon r b i j * gLon r b i j))

/-- The kernel's sum over one image of the coarse term. -/
def imgCoarse (p : Fine) (o : Coarse) (b : Fin 16) : EReal := ∑ i, ∑ j, coarseMisfit p o b i j * coarseMisfit p o b i j

theorem sum_gLat (r : Fine) (b : Fin 16) : ∑ i, ∑ j, gLat r b i j * gLat r b i j = ∑ i, ∑ j, dLat r b i j * dLat r b i j := by
  rw [Fin.sum_univ_castSucc]
  have h0 : ∑ j, gLat r b (Fin.last 511) j * gLat r b (Fin.last 511) j = 0 :=
    Finset.sum_eq_zero fun j _ => by unfold gLat; rw [dif_neg (by simp)]; exact mul_zero _
  rw [h0, add_zero]
  refine Finset.sum_congr rfl fun i _ => Finset.sum_congr rfl fun j _ => ?_
  have e : gLat r b i.castSucc j = dLat r b i j := by unfold gLat; rw [dif_pos (by simp)]; rfl
  rw [e]

theorem sum_gLon (r : Fine) (b : Fin 16) : ∑ i, ∑ j, gLon r b i j * gLon r b i j = ∑ i, ∑ j, dLon r b i j * dLon r b i j := by
  refine Finset.sum_congr rfl fun i _ => ?_
  rw [Fin.sum_univ_castSucc]
  have h0 : gLon r b i (Fin.last 511) * gLon r b i (Fin.last 511) = 0 := by unfold gLon; rw [dif_neg (by simp)]; exact mul_zero _
  rw [h0, add_zero]
  refine Finset.sum_congr rfl fun j _ => ?_
  have e : gLon r b i j.castSucc = dLon r b i j := by unfold gLon; rw [dif_pos (by simp)]; rfl
  rw [e]

/-- The sum over the images of the kernel's terms is the loss. -/
theorem sum_images (p r w : Fine) (o : Coarse) : ∑ b, (imgFine p r w b + cC * imgCoarse p o b) = loss p r w o := by
  have hW : ∀ b, imgFine p r w b = cW * (∑ i, ∑ j, misfit p r w b i j * misfit p r w b i j) + cA * (∑ i, ∑ j, r b i j * r b i j)
      + cG * (∑ i, ∑ j, dLat r b i j * dLat r b i j) + cG * (∑ i, ∑ j, dLon r b i j * dLon r b i j) := fun b => by
    rw [← sum_gLat, ← sum_gLon]
    unfold imgFine cW cA cG
    simp only [misfit_sq, Finset.sum_add_distrib]
    simp only [mul_sum' (show (0 : ℝ) ≤ 1 / 4194304 by norm_num), mul_sum' (show (0 : ℝ) ≤ 5368709 / 536870912 / 4194304 by norm_num),
      mul_sum' (show (0 : ℝ) ≤ 72057593501057 / 301641159093298588024832 by norm_num)]
    rfl
  simp only [hW, Finset.sum_add_distrib]
  unfold loss sumW sumC sumA sumLat sumLon imgCoarse
  rw [show (cW : EReal) = ((1 / 4194304 : ℝ) : EReal) from rfl, show (cC : EReal) = ((10 / 65536 : ℝ) : EReal) from rfl,
    show (cA : EReal) = ((5368709 / 536870912 / 4194304 : ℝ) : EReal) from rfl,
    show (cG : EReal) = ((72057593501057 / 301641159093298588024832 : ℝ) : EReal) from rfl]
  rw [← mul_sum' (by norm_num), ← mul_sum' (by norm_num), ← mul_sum' (by norm_num), ← mul_sum' (by norm_num), ← mul_sum' (by norm_num)]
  ac_rfl

/-- The four points' running sum over four images each is the sum over the 16 images. -/
theorem sum_points (f : Fin 16 → EReal) :
    ∑ t : Fin 4, ∑ u : Fin 4, f ⟨t.val * 4 + u.val, by omega⟩ = ∑ b, f b :=
  (sum_mul_eq 4 4 16 rfl f).symm

end Cert.Loss

end
-- ==== Proof.PI.Step.lean ====
/-
  One grid point's payloads at the extended reals (hand-written): the fine sum of a block of four images, the two products
  and the coarse sum, and what the point adds to the accumulator.
-/
module

public import proofs.«01_k».proof.Proof.Gen.KernelIdeal.Skeleton
public import proofs.«01_k».proof.Proof.Loss.Spec
public import Idealize.ShloMosaic.Lib.MatmulPlain
public import Idealize.ShloMosaic.Lib.KernelVsHost
public import Idealize.ShloMosaic.Lib.Pipeline.Value
public import Idealize.ShloMosaic.Lib.Routing.Words
public import Idealize.ShloMosaic.Lib.StableHlo.Predicate
public import Idealize.ShloMosaic.Lib.Pointwise

@[expose] public section

set_option maxRecDepth 16384

noncomputable section

namespace Cert.KernelIdeal.Hand

open Cert.KernelIdeal Cert.KernelIdeal.Gen Cert.Loss
open Idealize.ShloMosaic Idealize.ShloMosaic.StableHlo
open scoped BigOperators

/-! ## The weights -/

theorem ofBits_cW : Ideal.ofBits .f32 0x34800000#32 = cW := by
  unfold cW; simp [Ideal.ofBits, Ideal.ieee, -EReal.coe_mul]; norm_num
theorem ofBits_cC : Ideal.ofBits .f32 0x39200000#32 = cC := by
  unfold cC; simp [Ideal.ofBits, Ideal.ieee, -EReal.coe_mul]; norm_num
theorem ofBits_cA : Ideal.ofBits .f32 0x3123D70A#32 = cA := by
  unfold cA; simp [Ideal.ofBits, Ideal.ieee, -EReal.coe_mul]; norm_num
theorem kappa_w : κ "w_grad" = some cG := by unfold κ cG; rfl
theorem named_cG : Named.named (F := Ideal) κ "w_grad" (φ := .f32) 0x2F835419#32 = cG :=
  IdealRules.named_const.ideal_named_scalar (φ := .f32) κ "w_grad" 0x2F835419#32 cG kappa_w

/-! ## Sums and reductions -/

/-- A rank-2 array summed through its one-row reshape. -/
theorem sum_reshape3 {a b : ℕ} (v : FVec Ideal ⟨2, ![a, b]⟩ .f32) (h : (⟨2, ![a, b]⟩ : Shape).ShapeCasts ⟨3, ![1, a, b]⟩) :
    ∑ i : (⟨3, ![1, a, b]⟩ : Shape).Idx, (shapeCast ⟨3, ![1, a, b]⟩ v h i : EReal) = ∑ y : Fin a, ∑ x : Fin b, v (ix2 y x) := by
  rw [sum_idx3, Fin.sum_univ_one]
  refine Finset.sum_congr rfl fun y _ => Finset.sum_congr rfl fun x _ => ?_
  rw [shapeCast_apply v h (ix3 0 y x) (ix2 y x) (by rw [Shape.rowMajor_val_two, Shape.rowMajor_val_three]; simp)]

/-- The one element of a one-element vector, taken out through a reshape. -/
theorem extract_one (v : FVec Ideal S1 .f32) : extractAt ![0, 0, 0] (shapeCast S1x1x1 v shapeCasts_S1_S1x1x1) inpos_S1x1x1_p0_0_0 = v (ix1 0) := by
  unfold extractAt shapeCast
  refine congrArg v (funext fun a => Fin.ext ?_)
  match a with
  | ⟨0, _⟩ => exact Nat.lt_one_iff.1 (Fin.isLt _)

/-! ## The masked differences -/

/-- Rolled up one row. -/
theorem roll_rows (x : FVec Ideal S2048x512 .f32) (y : Fin 2048) (j : Fin 512) :
    dynamicRotate 0 2047#32 none x rotates_S2048x512_d0 (ix2 y j) = x (ix2 ⟨(y.val + 1) % 2048, Nat.mod_lt _ (by norm_num)⟩ j) :=
  dynamicRotate_apply 0 _ x _ _ _ fun b => by
    match b with
    | ⟨0, _⟩ => rfl
    | ⟨1, _⟩ => rfl

/-- Rolled left one column. -/
theorem roll_cols (x : FVec Ideal S2048x512 .f32) (y : Fin 2048) (j : Fin 512) :
    dynamicRotate 1 511#32 none x rotates_S2048x512_d1 (ix2 y j) = x (ix2 y ⟨(j.val + 1) % 512, Nat.mod_lt _ (by norm_num)⟩) :=
  dynamicRotate_apply 1 _ x _ _ _ fun b => by
    match b with
    | ⟨0, _⟩ => rfl
    | ⟨1, _⟩ => rfl

/-- The row mask: not the last row of an image. -/
theorem mask_rows (y : Fin 2048) (j : Fin 512) :
    cmpi .slt (remsi (iota .tc S2048x512 32 [0] iota_S2048x512_d0_w32) (broadcast S2048x512 512#32)) (broadcast S2048x512 511#32) (ix2 y j) = 1#1
      ↔ y.val % 512 < 511 := by
  have hy := y.isLt
  have e : remsi (iota .tc S2048x512 32 [0] iota_S2048x512_d0_w32) (broadcast S2048x512 512#32) (ix2 y j) = BitVec.ofNat 32 (y.val % 512) := by
    show IntOp.remsi .vector (BitVec.ofNat 32 (0 * 2048 + y.val)) (BitVec.ofNat 32 512) = _
    rw [Routing.remsi_word .vector (by omega) (by norm_num) (by norm_num), Nat.zero_mul, Nat.zero_add]
  rw [cmpi_apply, e]
  exact Predicate.slt_ofNat_iff _ _ (by omega) (by norm_num)

/-- The column mask: not the last column. -/
theorem mask_cols (y : Fin 2048) (j : Fin 512) :
    cmpi .slt (iota .tc S2048x512 32 [1] iota_S2048x512_d1_w32) (broadcast S2048x512 511#32) (ix2 y j) = 1#1 ↔ j.val < 511 := by
  have hj := j.isLt
  have e : iota .tc S2048x512 32 [1] iota_S2048x512_d1_w32 (ix2 y j) = BitVec.ofNat 32 j.val := by
    show BitVec.ofNat 32 (0 * 512 + j.val) = _
    rw [Nat.zero_mul, Nat.zero_add]
  rw [cmpi_apply, e]
  exact Predicate.slt_ofNat_iff _ _ (by omega) (by norm_num)

/-- The difference down the rows of a block, zero at an image's last row. -/
def bLat (r : Fin 2048 → Fin 512 → EReal) (y : Fin 2048) (j : Fin 512) : EReal :=
  if y.val % 512 < 511 then r ⟨(y.val + 1) % 2048, Nat.mod_lt _ (by norm_num)⟩ j - r y j else 0
/-- The difference along the columns of a block, zero at the last column. -/
def bLon (r : Fin 2048 → Fin 512 → EReal) (y : Fin 2048) (j : Fin 512) : EReal :=
  if j.val < 511 then r y ⟨(j.val + 1) % 512, Nat.mod_lt _ (by norm_num)⟩ - r y j else 0

/-- The fine terms at one position of a block. -/
def bCell (p r w : Fin 2048 → Fin 512 → EReal) (y : Fin 2048) (j : Fin 512) : EReal :=
  cW * ((w y j - r y j + p y j) * (w y j - r y j + p y j)) + cA * (r y j * r y j)
    + cG * (bLat r y j * bLat r y j) + cG * (bLon r y j * bLon r y j)

/-- An array's elements by row and column. -/
abbrev mat {a b : ℕ} {φ : FTy} (x : FVec Ideal ⟨2, ![a, b]⟩ φ) (y : Fin a) (j : Fin b) : EReal := x (ix2 y j)

/-- The block's fine sum. -/
theorem pay3_apply (x0 x1 x2 : Vec Ideal S2048x512 .f32) :
    k0_pay3 (F := Ideal) x0 x1 x2 (ix1 0) = (∑ y : Fin 2048, ∑ j : Fin 512, bCell (mat (φ := .f32) x0) (mat (φ := .f32) x1) (mat (φ := .f32) x2) y j : EReal) := by
  unfold k0_pay3 k0_pay2
  refine (Ideal.multiReduction_add_total _ _ _ (fun b => by match b with | ⟨0, _⟩ => rfl) _ _ _).trans ?_
  refine (sum_reshape3 _ _).trans ?_
  refine Finset.sum_congr rfl fun y _ => Finset.sum_congr rfl fun j _ => ?_
  simp only [shapeCast_id]
  unfold bCell bLat bLon mat
  have hs : ∀ (m : IVec S2048x512 1) (a b : FVec Ideal S2048x512 .f32) (P : Prop) [Decidable P], (m (ix2 y j) = 1#1 ↔ P) →
      select m a b (ix2 y j) = if P then a (ix2 y j) else b (ix2 y j) := fun m a b P _ h => by
    exact if_congr h rfl rfl
  simp only [addf_apply, mulf_apply, subf_apply, ValueIdx.broadcast_apply, hs _ _ _ _ (mask_rows y j), hs _ _ _ _ (mask_cols y j),
    Ideal.addf_def, Ideal.mulf_def, Ideal.subf_def, named_cG, Scalar.ofBits, Ideal.ofBits_def, ofBits_cW, ofBits_cA, Ideal.ofBits_zero_f32]
  erw [roll_rows x1 y j, roll_cols x1 y j]

/-- The block averages as the kernel forms them: a product with `sp` of a product with `kp`. -/
def bAvg (p : Fin 2048 → Fin 512 → EReal) (kp : Fin 512 → Fin 64 → EReal) (sp : Fin 256 → Fin 2048 → EReal) (q : Fin 256) (j : Fin 64) : EReal :=
  ∑ y : Fin 2048, sp q y * ∑ k : Fin 512, p y k * kp k j

/-- What one point leaves in the accumulator. -/
theorem pay1_apply (a0 : BitVec 32) (p : FVec Ideal S2048x512 .f32) (v40 : FVec Ideal S1 .f32) (kp : Vec Ideal S512x64 .bf16)
    (sp : Vec Ideal S256x2048 .bf16) (o : Vec Ideal S256x64 .f32) (prev : Vec Ideal S1x1 .f32) :
    k0_pay1 (F := Ideal) a0 p v40 kp sp o prev (ix2 0 0) = ((if a0 = 0#32 then 0 else prev (ix2 0 0)) + (v40 (ix1 0) + cC * ∑ q : Fin 256, ∑ j : Fin 64,
      (bAvg (mat p) (mat (φ := .bf16) kp) (mat (φ := .bf16) sp) q j - mat (φ := .f32) o q j) * (bAvg (mat p) (mat (φ := .bf16) kp) (mat (φ := .bf16) sp) q j - mat (φ := .f32) o q j)) : EReal) := by
  unfold k0_pay1
  simp only [addf_apply, extract_one, ValueIdx.broadcast_apply, shapeCast_id, Ideal.addf_def, Scalar.addf, Scalar.mulf, Ideal.mulf_def, Scalar.ofBits, Ideal.ofBits_def,
    ofBits_cC, Ideal.ofBits_zero_f32]
  refine congrArg₂ (fun a b : EReal => a + (v40 (ix1 0) + cC * b)) ?_ ?_
  · unfold Scalar.select
    by_cases h : a0 = 0#32
    · rw [if_pos (show Scalar.cmpi .eq a0 0#32 = 1 from Predicate.cmpi_eq_iff.2 h), if_pos h]; rfl
    · rw [if_neg (fun h' : Scalar.cmpi .eq a0 0#32 = 1 => h (Predicate.cmpi_eq_iff.1 h')), if_neg h]
  · refine (Ideal.multiReduction_add_total _ _ _ (fun b => by match b with | ⟨0, _⟩ => rfl) _ _ _).trans ?_
    refine (sum_reshape3 _ _).trans ?_
    refine Finset.sum_congr rfl fun q _ => Finset.sum_congr rfl fun j _ => ?_
    have e : matmul (φ₁ := .bf16) dot_S256x2048_S2048x64_S256x64_1_0_0_1_n_n none sp
        (truncf .bf16 (matmul (φ₂ := .bf16) dot_S2048x512_S512x64_S2048x64_1_0_0_1_n_n none (truncf .bf16 p bitsLt_bf16_f32) kp (constant S2048x64 .f32 0x00000000#32)) bitsLt_bf16_f32)
        (constant S256x64 .f32 0x00000000#32) (ix2 q j) = bAvg (mat p) (mat (φ := .bf16) kp) (mat (φ := .bf16) sp) q j := by
      refine (Ideal.matmul_plain_apply none _ _ _ q j).trans ?_
      show Ideal.ofBits .f32 0x00000000#32 + _ = _
      rw [Ideal.ofBits_zero_f32, zero_add]
      refine Finset.sum_congr rfl fun y _ => congrArg (sp (ix2 q y) * ·) ?_
      refine (Ideal.matmul_plain_apply (φ₁ := .bf16) (φ₂ := .bf16) none _ _ _ y j).trans ?_
      show Ideal.ofBits .f32 0x00000000#32 + _ = _
      rw [Ideal.ofBits_zero_f32, zero_add]
      rfl
    rw [mulf_apply, subf_apply, e]
    rfl

end Cert.KernelIdeal.Hand

end
-- ==== Proof.PI.Blocks.lean ====
/-
  A block of four images (hand-written): the fine and coarse sums over a block's rows are the sums over its four images.
-/
module

public import proofs.«01_k».proof.Proof.PI.Step

@[expose] public section

noncomputable section

namespace Cert.KernelIdeal.Hand

open Cert.KernelIdeal Cert.Loss
open scoped BigOperators

/-- Image `u` of the four that point `t` reads. -/
def img (t u : Fin 4) : Fin 16 := ⟨t.val * 4 + u.val, by omega⟩
/-- Row `i` of image `u` in a block of four fine images. -/
def rowF (u : Fin 4) (i : Fin 512) : Fin 2048 := ⟨u.val * 512 + i.val, by omega⟩
/-- Row `i` of image `u` in a block of four coarse images. -/
def rowC (u : Fin 4) (i : Fin 64) : Fin 256 := ⟨u.val * 64 + i.val, by omega⟩

/-- `P` is the block of four fine images of `p` that point `t` reads. -/
def IsFine (P : Fin 2048 → Fin 512 → EReal) (p : Fine) (t : Fin 4) : Prop := ∀ u i j, P (rowF u i) j = p (img t u) i j
/-- `O` is the block of four coarse images of `o` that point `t` reads. -/
def IsCoarse (O : Fin 256 → Fin 64 → EReal) (o : Coarse) (t : Fin 4) : Prop := ∀ u i j, O (rowC u i) j = o (img t u) i j

/-- A sum over a block's fine rows, image by image. -/
theorem sum_rowF (f : Fin 2048 → EReal) : ∑ y, f y = ∑ u, ∑ i, f (rowF u i) := sum_mul_eq 4 512 2048 rfl f
/-- A sum over a block's coarse rows, image by image. -/
theorem sum_rowC (f : Fin 256 → EReal) : ∑ y, f y = ∑ u, ∑ i, f (rowC u i) := sum_mul_eq 4 64 256 rfl f

/-- The block's masked difference down the rows is the image's. -/
theorem bLat_eq {R : Fin 2048 → Fin 512 → EReal} {r : Fine} {t : Fin 4} (h : IsFine R r t) (u : Fin 4) (i j : Fin 512) :
    bLat R (rowF u i) j = gLat r (img t u) i j := by
  have hu := u.isLt
  have hi := i.isLt
  have e : (rowF u i).val % 512 = i.val := by show (u.val * 512 + i.val) % 512 = i.val; omega
  unfold bLat gLat
  by_cases hc : i.val < 511
  · have e' : (⟨((rowF u i).val + 1) % 2048, Nat.mod_lt _ (by norm_num)⟩ : Fin 2048) = rowF u ⟨i.val + 1, by omega⟩ :=
      Fin.ext (by show (u.val * 512 + i.val + 1) % 2048 = u.val * 512 + (i.val + 1); omega)
    rw [if_pos (by rw [e]; exact hc), dif_pos hc, e', h, h]
  · rw [if_neg (by rw [e]; exact hc), dif_neg hc]

/-- The block's masked difference along the columns is the image's. -/
theorem bLon_eq {R : Fin 2048 → Fin 512 → EReal} {r : Fine} {t : Fin 4} (h : IsFine R r t) (u : Fin 4) (i j : Fin 512) :
    bLon R (rowF u i) j = gLon r (img t u) i j := by
  unfold bLon gLon
  by_cases hc : j.val < 511
  · have e' : (⟨(j.val + 1) % 512, Nat.mod_lt _ (by norm_num)⟩ : Fin 512) = ⟨j.val + 1, by omega⟩ :=
      Fin.ext (by show (j.val + 1) % 512 = j.val + 1; omega)
    rw [if_pos hc, dif_pos hc, e', h, h]
  · rw [if_neg hc, dif_neg hc]

/-- A block's fine sum is the sum of its four images'. -/
theorem fine_block {P R W : Fin 2048 → Fin 512 → EReal} {p r w : Fine} {t : Fin 4} (hP : IsFine P p t) (hR : IsFine R r t)
    (hW : IsFine W w t) : ∑ y, ∑ j, bCell P R W y j = ∑ u, imgFine p r w (img t u) := by
  rw [sum_rowF]
  refine Finset.sum_congr rfl fun u _ => ?_
  unfold imgFine
  refine Finset.sum_congr rfl fun i _ => Finset.sum_congr rfl fun j _ => ?_
  unfold bCell
  rw [bLat_eq hR, bLon_eq hR, hP, hR, hW]

/-- The kernel's product of products is the block average. -/
theorem bAvg_eq {P : Fin 2048 → Fin 512 → EReal} {p : Fine} {t : Fin 4} (hP : IsFine P p t) {kp : Fin 512 → Fin 64 → EReal}
    {sp : Fin 256 → Fin 2048 → EReal} (hk : ∀ k j, kp k j = if k.val / 8 = j.val then 1 else 0)
    (hs : ∀ q y, sp q y = if y.val / 8 = q.val then ((1 / 64 : ℝ) : EReal) else 0) (u : Fin 4) (ci cj : Fin 64) :
    bAvg P kp sp (rowC u ci) cj = blockAvg p (img t u) ci cj := by
  unfold bAvg
  rw [sum_rowF, Finset.sum_eq_single u]
  · unfold blockAvg
    refine Finset.sum_congr rfl fun i _ => ?_
    rw [hs]
    by_cases hi : i.val / 8 = ci.val
    · rw [if_pos (by show (u.val * 512 + i.val) / 8 = u.val * 64 + ci.val; omega), mul_sum' (by norm_num)]
      refine Finset.sum_congr rfl fun j _ => ?_
      rw [hP, hk]
      by_cases hj : j.val / 8 = cj.val
      · rw [if_pos hj, if_pos ⟨hi, hj⟩, mul_one, mul_comm]
      · rw [if_neg hj, if_neg (fun h => hj h.2), mul_zero, mul_zero]
    · rw [if_neg (by show ¬(u.val * 512 + i.val) / 8 = u.val * 64 + ci.val; omega), zero_mul]
      exact (Finset.sum_eq_zero fun j _ => if_neg fun h => hi h.1).symm
  · intro u' _ hne
    refine Finset.sum_eq_zero fun i _ => ?_
    have hv : u'.val ≠ u.val := fun h => hne (Fin.ext h)
    rw [hs, if_neg (by show ¬(u'.val * 512 + i.val) / 8 = u.val * 64 + ci.val; have := i.isLt; have := ci.isLt; omega), zero_mul]
  · exact fun h => absurd (Finset.mem_univ u) h

/-- A block's coarse sum is the sum of its four images'. -/
theorem coarse_block {P : Fin 2048 → Fin 512 → EReal} {p : Fine} {t : Fin 4} (hP : IsFine P p t) {O : Fin 256 → Fin 64 → EReal}
    {o : Coarse} (hO : IsCoarse O o t) {kp : Fin 512 → Fin 64 → EReal}
    {sp : Fin 256 → Fin 2048 → EReal} (hk : ∀ k j, kp k j = if k.val / 8 = j.val then 1 else 0)
    (hs : ∀ q y, sp q y = if y.val / 8 = q.val then ((1 / 64 : ℝ) : EReal) else 0) :
    ∑ q, ∑ j, (bAvg P kp sp q j - O q j) * (bAvg P kp sp q j - O q j) = ∑ u, imgCoarse p o (img t u) := by
  rw [sum_rowC]
  refine Finset.sum_congr rfl fun u _ => ?_
  unfold imgCoarse coarseMisfit
  refine Finset.sum_congr rfl fun i _ => Finset.sum_congr rfl fun j _ => ?_
  rw [bAvg_eq hP hk hs, hO]

/-- What one point adds is its four images' terms. -/
theorem point_block {P R W : Fin 2048 → Fin 512 → EReal} {p r w : Fine} {t : Fin 4} (hP : IsFine P p t) (hR : IsFine R r t)
    (hW : IsFine W w t) {O : Fin 256 → Fin 64 → EReal} {o : Coarse} (hO : IsCoarse O o t) {kp : Fin 512 → Fin 64 → EReal}
    {sp : Fin 256 → Fin 2048 → EReal} (hk : ∀ k j, kp k j = if k.val / 8 = j.val then 1 else 0)
    (hs : ∀ q y, sp q y = if y.val / 8 = q.val then ((1 / 64 : ℝ) : EReal) else 0) :
    (∑ y, ∑ j, bCell P R W y j) + cC * ∑ q, ∑ j, (bAvg P kp sp q j - O q j) * (bAvg P kp sp q j - O q j)
      = ∑ u, (imgFine p r w (img t u) + cC * imgCoarse p o (img t u)) := by
  rw [fine_block hP hR hW, coarse_block hP hO hk hs, Finset.sum_add_distrib]
  refine congrArg (_ + ·) ?_
  unfold cC
  exact mul_sum' (by norm_num) _ _

end Cert.KernelIdeal.Hand

end
-- ==== Proof.Lit.Tabs.lean ====
/-
  The column-pooling operand's printed table (hand-written): the sub-tables that the others repeat, and what those hold.
-/
module

public import proofs.«01_k».proof.KernelIdeal
public import Mathlib.Tactic.IntervalCases

@[expose] public section

set_option maxRecDepth 16384

noncomputable section

namespace Cert.KernelIdeal.Hand

open Cert.KernelIdeal Idealize.ShloMosaic

/-- The column-pooling operand's sub-tables, by the column set in both of their rows. -/
def kpat (s i : ℕ) : BitVec 16 := match s with
  | 0 => lit0t0_0 i
  | 1 => lit0t0_4 i
  | 2 => lit0t0_8 i
  | 3 => lit0t0_12 i
  | 4 => lit0t0_16 i
  | 5 => lit0t0_20 i
  | 6 => lit0t0_24 i
  | 7 => lit0t0_28 i
  | 8 => lit0t0_32 i
  | 9 => lit0t0_36 i
  | 10 => lit0t0_40 i
  | 11 => lit0t0_44 i
  | 12 => lit0t0_48 i
  | 13 => lit0t0_52 i
  | 14 => lit0t0_56 i
  | 15 => lit0t0_60 i
  | 16 => lit0t0_64 i
  | 17 => lit0t0_68 i
  | 18 => lit0t0_72 i
  | 19 => lit0t0_76 i
  | 20 => lit0t0_80 i
  | 21 => lit0t0_84 i
  | 22 => lit0t0_88 i
  | 23 => lit0t0_92 i
  | 24 => lit0t0_96 i
  | 25 => lit0t0_100 i
  | 26 => lit0t0_104 i
  | 27 => lit0t0_108 i
  | 28 => lit0t0_112 i
  | 29 => lit0t0_116 i
  | 30 => lit0t0_120 i
  | 31 => lit0t0_124 i
  | 32 => lit0t0_128 i
  | 33 => lit0t0_132 i
  | 34 => lit0t0_136 i
  | 35 => lit0t0_140 i
  | 36 => lit0t0_144 i
  | 37 => lit0t0_148 i
  | 38 => lit0t0_152 i
  | 39 => lit0t0_156 i
  | 40 => lit0t0_160 i
  | 41 => lit0t0_164 i
  | 42 => lit0t0_168 i
  | 43 => lit0t0_172 i
  | 44 => lit0t0_176 i
  | 45 => lit0t0_180 i
  | 46 => lit0t0_184 i
  | 47 => lit0t0_188 i
  | 48 => lit0t0_192 i
  | 49 => lit0t0_196 i
  | 50 => lit0t0_200 i
  | 51 => lit0t0_204 i
  | 52 => lit0t0_208 i
  | 53 => lit0t0_212 i
  | 54 => lit0t0_216 i
  | 55 => lit0t0_220 i
  | 56 => lit0t0_224 i
  | 57 => lit0t0_228 i
  | 58 => lit0t0_232 i
  | 59 => lit0t0_236 i
  | 60 => lit0t0_240 i
  | 61 => lit0t0_244 i
  | 62 => lit0t0_248 i
  | _ => lit0t0_252 i

/-- A sub-table reads its index's remainder only. -/
theorem kpat_mod (i : ℕ) : ∀ s, s < 64 → kpat s i = kpat s (i % 128) := by
  intro s hs
  interval_cases s
  · show lit0t0_0 i = lit0t0_0 (i % 128); unfold lit0t0_0; rw [Nat.mod_mod]
  · show lit0t0_4 i = lit0t0_4 (i % 128); unfold lit0t0_4; rw [Nat.mod_mod]
  · show lit0t0_8 i = lit0t0_8 (i % 128); unfold lit0t0_8; rw [Nat.mod_mod]
  · show lit0t0_12 i = lit0t0_12 (i % 128); unfold lit0t0_12; rw [Nat.mod_mod]
  · show lit0t0_16 i = lit0t0_16 (i % 128); unfold lit0t0_16; rw [Nat.mod_mod]
  · show lit0t0_20 i = lit0t0_20 (i % 128); unfold lit0t0_20; rw [Nat.mod_mod]
  · show lit0t0_24 i = lit0t0_24 (i % 128); unfold lit0t0_24; rw [Nat.mod_mod]
  · show lit0t0_28 i = lit0t0_28 (i % 128); unfold lit0t0_28; rw [Nat.mod_mod]
  · show lit0t0_32 i = lit0t0_32 (i % 128); unfold lit0t0_32; rw [Nat.mod_mod]
  · show lit0t0_36 i = lit0t0_36 (i % 128); unfold lit0t0_36; rw [Nat.mod_mod]
  · show lit0t0_40 i = lit0t0_40 (i % 128); unfold lit0t0_40; rw [Nat.mod_mod]
  · show lit0t0_44 i = lit0t0_44 (i % 128); unfold lit0t0_44; rw [Nat.mod_mod]
  · show lit0t0_48 i = lit0t0_48 (i % 128); unfold lit0t0_48; rw [Nat.mod_mod]
  · show lit0t0_52 i = lit0t0_52 (i % 128); unfold lit0t0_52; rw [Nat.mod_mod]
  · show lit0t0_56 i = lit0t0_56 (i % 128); unfold lit0t0_56; rw [Nat.mod_mod]
  · show lit0t0_60 i = lit0t0_60 (i % 128); unfold lit0t0_60; rw [Nat.mod_mod]
  · show lit0t0_64 i = lit0t0_64 (i % 128); unfold lit0t0_64; rw [Nat.mod_mod]
  · show lit0t0_68 i = lit0t0_68 (i % 128); unfold lit0t0_68; rw [Nat.mod_mod]
  · show lit0t0_72 i = lit0t0_72 (i % 128); unfold lit0t0_72; rw [Nat.mod_mod]
  · show lit0t0_76 i = lit0t0_76 (i % 128); unfold lit0t0_76; rw [Nat.mod_mod]
  · show lit0t0_80 i = lit0t0_80 (i % 128); unfold lit0t0_80; rw [Nat.mod_mod]
  · show lit0t0_84 i = lit0t0_84 (i % 128); unfold lit0t0_84; rw [Nat.mod_mod]
  · show lit0t0_88 i = lit0t0_88 (i % 128); unfold lit0t0_88; rw [Nat.mod_mod]
  · show lit0t0_92 i = lit0t0_92 (i % 128); unfold lit0t0_92; rw [Nat.mod_mod]
  · show lit0t0_96 i = lit0t0_96 (i % 128); unfold lit0t0_96; rw [Nat.mod_mod]
  · show lit0t0_100 i = lit0t0_100 (i % 128); unfold lit0t0_100; rw [Nat.mod_mod]
  · show lit0t0_104 i = lit0t0_104 (i % 128); unfold lit0t0_104; rw [Nat.mod_mod]
  · show lit0t0_108 i = lit0t0_108 (i % 128); unfold lit0t0_108; rw [Nat.mod_mod]
  · show lit0t0_112 i = lit0t0_112 (i % 128); unfold lit0t0_112; rw [Nat.mod_mod]
  · show lit0t0_116 i = lit0t0_116 (i % 128); unfold lit0t0_116; rw [Nat.mod_mod]
  · show lit0t0_120 i = lit0t0_120 (i % 128); unfold lit0t0_120; rw [Nat.mod_mod]
  · show lit0t0_124 i = lit0t0_124 (i % 128); unfold lit0t0_124; rw [Nat.mod_mod]
  · show lit0t0_128 i = lit0t0_128 (i % 128); unfold lit0t0_128; rw [Nat.mod_mod]
  · show lit0t0_132 i = lit0t0_132 (i % 128); unfold lit0t0_132; rw [Nat.mod_mod]
  · show lit0t0_136 i = lit0t0_136 (i % 128); unfold lit0t0_136; rw [Nat.mod_mod]
  · show lit0t0_140 i = lit0t0_140 (i % 128); unfold lit0t0_140; rw [Nat.mod_mod]
  · show lit0t0_144 i = lit0t0_144 (i % 128); unfold lit0t0_144; rw [Nat.mod_mod]
  · show lit0t0_148 i = lit0t0_148 (i % 128); unfold lit0t0_148; rw [Nat.mod_mod]
  · show lit0t0_152 i = lit0t0_152 (i % 128); unfold lit0t0_152; rw [Nat.mod_mod]
  · show lit0t0_156 i = lit0t0_156 (i % 128); unfold lit0t0_156; rw [Nat.mod_mod]
  · show lit0t0_160 i = lit0t0_160 (i % 128); unfold lit0t0_160; rw [Nat.mod_mod]
  · show lit0t0_164 i = lit0t0_164 (i % 128); unfold lit0t0_164; rw [Nat.mod_mod]
  · show lit0t0_168 i = lit0t0_168 (i % 128); unfold lit0t0_168; rw [Nat.mod_mod]
  · show lit0t0_172 i = lit0t0_172 (i % 128); unfold lit0t0_172; rw [Nat.mod_mod]
  · show lit0t0_176 i = lit0t0_176 (i % 128); unfold lit0t0_176; rw [Nat.mod_mod]
  · show lit0t0_180 i = lit0t0_180 (i % 128); unfold lit0t0_180; rw [Nat.mod_mod]
  · show lit0t0_184 i = lit0t0_184 (i % 128); unfold lit0t0_184; rw [Nat.mod_mod]
  · show lit0t0_188 i = lit0t0_188 (i % 128); unfold lit0t0_188; rw [Nat.mod_mod]
  · show lit0t0_192 i = lit0t0_192 (i % 128); unfold lit0t0_192; rw [Nat.mod_mod]
  · show lit0t0_196 i = lit0t0_196 (i % 128); unfold lit0t0_196; rw [Nat.mod_mod]
  · show lit0t0_200 i = lit0t0_200 (i % 128); unfold lit0t0_200; rw [Nat.mod_mod]
  · show lit0t0_204 i = lit0t0_204 (i % 128); unfold lit0t0_204; rw [Nat.mod_mod]
  · show lit0t0_208 i = lit0t0_208 (i % 128); unfold lit0t0_208; rw [Nat.mod_mod]
  · show lit0t0_212 i = lit0t0_212 (i % 128); unfold lit0t0_212; rw [Nat.mod_mod]
  · show lit0t0_216 i = lit0t0_216 (i % 128); unfold lit0t0_216; rw [Nat.mod_mod]
  · show lit0t0_220 i = lit0t0_220 (i % 128); unfold lit0t0_220; rw [Nat.mod_mod]
  · show lit0t0_224 i = lit0t0_224 (i % 128); unfold lit0t0_224; rw [Nat.mod_mod]
  · show lit0t0_228 i = lit0t0_228 (i % 128); unfold lit0t0_228; rw [Nat.mod_mod]
  · show lit0t0_232 i = lit0t0_232 (i % 128); unfold lit0t0_232; rw [Nat.mod_mod]
  · show lit0t0_236 i = lit0t0_236 (i % 128); unfold lit0t0_236; rw [Nat.mod_mod]
  · show lit0t0_240 i = lit0t0_240 (i % 128); unfold lit0t0_240; rw [Nat.mod_mod]
  · show lit0t0_244 i = lit0t0_244 (i % 128); unfold lit0t0_244; rw [Nat.mod_mod]
  · show lit0t0_248 i = lit0t0_248 (i % 128); unfold lit0t0_248; rw [Nat.mod_mod]
  · show lit0t0_252 i = lit0t0_252 (i % 128); unfold lit0t0_252; rw [Nat.mod_mod]

theorem kpat_fin : ∀ s : Fin 64, ∀ r : Fin 128, kpat s.val r.val = if r.val % 64 = s.val then 0x3F80#16 else 0#16 := by decide +kernel

end Cert.KernelIdeal.Hand

end
-- ==== Proof.Lit.Kpool.lean ====
/-
  The column-pooling operand's printed table (hand-written): one at column `k/8` of row `k`, zero elsewhere.
-/
module

public import proofs.«01_k».proof.Proof.Lit.Tabs
public import Mathlib.Tactic.IntervalCases

@[expose] public section

set_option maxRecDepth 16384

noncomputable section

namespace Cert.KernelIdeal.Hand

open Cert.KernelIdeal Idealize.ShloMosaic

set_option maxHeartbeats 4000000 in
theorem kpool_part_0 (i : ℕ) : lit0t1_0 i = kpat ((128 * 0 + i / 128 % 128) / 4) i := by
  have hb : i / 128 % 128 < 128 := Nat.mod_lt _ (by decide)
  unfold lit0t1_0
  generalize i / 128 % 128 = b at hb ⊢
  interval_cases b <;> rfl

set_option maxHeartbeats 4000000 in
theorem kpool_part_1 (i : ℕ) : lit0t1_1 i = kpat ((128 * 1 + i / 128 % 128) / 4) i := by
  have hb : i / 128 % 128 < 128 := Nat.mod_lt _ (by decide)
  unfold lit0t1_1
  generalize i / 128 % 128 = b at hb ⊢
  interval_cases b <;> rfl

/-- The table's word at position `n`. -/
theorem kpool_word (n : ℕ) (hn : n < 32768) : lit0t n = if n / 64 / 8 = n % 64 then 0x3F80#16 else 0#16 := by
  have key : ∀ J, J < 2 → n / 16384 = J → kpat ((128 * J + n / 128 % 128) / 4) n = if n / 64 / 8 = n % 64 then 0x3F80#16 else 0#16 := by
    intro J hJ h
    have hs : (128 * J + n / 128 % 128) / 4 < 64 := by omega
    rw [kpat_mod _ _ hs, kpat_fin ⟨_, hs⟩ ⟨n % 128, Nat.mod_lt _ (by decide)⟩]
    have e : n / 64 / 8 = (128 * J + n / 128 % 128) / 4 := by
      rw [Nat.div_div_eq_div_mul]
      have e1 : 128 * J + n / 128 % 128 = n / 128 := by omega
      rw [e1, Nat.div_div_eq_div_mul]
    have e2 : n % 64 = n % 128 % 64 := by omega
    rw [e, e2]
    refine if_congr ?_ rfl rfl
    dsimp only
    constructor <;> intro h' <;> exact h'.symm
  have hJ : n / 16384 < 2 := by omega
  unfold lit0t
  generalize hj : n / 16384 = J at hJ ⊢
  interval_cases J
  · exact (kpool_part_0 n).trans (key 0 (by decide) hj)
  · exact (kpool_part_1 n).trans (key 1 (by decide) hj)

end Cert.KernelIdeal.Hand

end
-- ==== Proof.PI.Value.lean ====
/-
  The kernel's value at the extended reals (hand-written): what the host lines leave for the windows, what each window reads
  at a point, and the running sum after the last point as the loss.
-/
module

public import proofs.«01_k».proof.Proof.PI.Body
public import proofs.«01_k».proof.Proof.PI.Blocks
public import proofs.«01_k».proof.Proof.Lit.Kpool

@[expose] public section

set_option maxRecDepth 16384

noncomputable section

namespace Cert.KernelIdeal.Hand

open Cert.KernelIdeal Cert.KernelIdeal.Gen Cert.Loss
open Idealize.ShloMosaic Idealize.ShloMosaic.TcCoe Idealize.ShloMosaic.Tactic Idealize.ShloMosaic.StableHlo
open scoped BigOperators

/-- A rank-3 array's fine images. -/
def fine (x : FVec Ideal S16x512x512 .f32) : Fine := fun b i j => x (ix3 b i j)
/-- A rank-3 array's coarse images. -/
def coarse (x : FVec Ideal S16x64x64 .f32) : Coarse := fun b i j => x (ix3 b i j)

variable (m : (ℓ : Loc nD τ sig) → Buf (Elt Ideal) ℓ)

/-! ## What the host lines leave -/

theorem V_v8 (c : Dev nD) : (V m c main_v8 : FVec Ideal S8192x512 .f32) = shapeCast S8192x512 (m ((c : Thread nD τ).loc main_arg0)) shapeCasts_S16x512x512_S8192x512 := by
  show StableHlo.after _ _ _ = _
  simp only [hostOps0, List.flatten_cons, List.flatten_nil, List.append_nil]
  after_results
  rfl
theorem V_v9 (c : Dev nD) : (V m c main_v9 : FVec Ideal S8192x512 .f32) = shapeCast S8192x512 (m ((c : Thread nD τ).loc main_arg1)) shapeCasts_S16x512x512_S8192x512 := by
  show StableHlo.after _ _ _ = _
  simp only [hostOps0, List.flatten_cons, List.flatten_nil, List.append_nil]
  after_results
  rfl
theorem V_v10 (c : Dev nD) : (V m c main_v10 : FVec Ideal S8192x512 .f32) = shapeCast S8192x512 (m ((c : Thread nD τ).loc main_arg2)) shapeCasts_S16x512x512_S8192x512 := by
  show StableHlo.after _ _ _ = _
  simp only [hostOps0, List.flatten_cons, List.flatten_nil, List.append_nil]
  after_results
  rfl
theorem V_v11 (c : Dev nD) : (V m c main_v11 : FVec Ideal S1024x64 .f32) = shapeCast S1024x64 (m ((c : Thread nD τ).loc main_arg3)) shapeCasts_S16x64x64_S1024x64 := by
  show StableHlo.after _ _ _ = _
  simp only [hostOps0, List.flatten_cons, List.flatten_nil, List.append_nil]
  after_results
  rfl
theorem V_cst (c : Dev nD) : (V m c main_cst : FVec Ideal S512x64 .bf16) = fun i => FloatOps.ofBits (F := Ideal) .bf16 (lit0 (S512x64.rowMajor i)) := by
  show StableHlo.after _ _ _ = _
  simp only [hostOps0, List.flatten_cons, List.flatten_nil, List.append_nil]
  after_results
  rfl
theorem V_v7 (c : Dev nD) : (V m c main_v7 : FVec Ideal S256x2048 .bf16)
    = select (cmpi .eq (Host.divsi (iotaInDim S256x2048 32 1) (broadcastInDim S256x2048 ![] bcast_S_S256x2048 (constantI S_ 32 8#32))) (iotaInDim S256x2048 32 0))
      (broadcastInDim S256x2048 ![] bcast_S_S256x2048 (constant (F := Ideal) S_ .bf16 0x3C80#16))
      (broadcastInDim S256x2048 ![] bcast_S_S256x2048 (constant (F := Ideal) S_ .bf16 0x0000#16)) := by
  show StableHlo.after _ _ _ = _
  simp only [hostOps0, List.flatten_cons, List.flatten_nil, List.append_nil]
  after_results

/-! ## What each window reads at a point -/

/-- Grid point `T`. -/
def pt (T : Fin 4) : Fin cfg0.N := ⟨T.val, by rw [show cfg0.N = 4 from N_0]; exact T.isLt⟩

/-- Row `i` of image `u` of point `T`, in the reshaped fine array. -/
theorem reshape_fine (x : FVec Ideal S16x512x512 .f32) (T u : Fin 4) (i j : Fin 512) (k : S8192x512.Idx)
    (h0 : (k 0).val = T.val * 2048 + (u.val * 512 + i.val)) (h1 : (k 1).val = j.val) :
    shapeCast S8192x512 x shapeCasts_S16x512x512_S8192x512 k = fine x (img T u) i j := by
  refine shapeCast_apply x _ k (ix3 (img T u) i j) ?_
  rw [Shape.rowMajor_val_two, Shape.rowMajor_val_three, h0, h1]
  show ((T.val * 4 + u.val) * 512 + i.val) * 512 + j.val = (T.val * 2048 + (u.val * 512 + i.val)) * 512 + j.val
  ring

/-- Row `i` of image `u` of point `T`, in the reshaped coarse array. -/
theorem reshape_coarse (x : FVec Ideal S16x64x64 .f32) (T u : Fin 4) (i j : Fin 64) (k : S1024x64.Idx)
    (h0 : (k 0).val = T.val * 256 + (u.val * 64 + i.val)) (h1 : (k 1).val = j.val) :
    shapeCast S1024x64 x shapeCasts_S16x64x64_S1024x64 k = coarse x (img T u) i j := by
  refine shapeCast_apply x _ k (ix3 (img T u) i j) ?_
  rw [Shape.rowMajor_val_two, Shape.rowMajor_val_three, h0, h1]
  show ((T.val * 4 + u.val) * 64 + i.val) * 64 + j.val = (T.val * 256 + (u.val * 64 + i.val)) * 64 + j.val
  ring

/-- Window 0 reads four fine images of argument 0. -/
theorem iblk0 (c : Dev nD) (T : Fin 4) :
    IsFine (mat (φ := .f32) (iblk m c 0 (pt T))) (fine (m ((c : Thread nD τ).loc main_arg0))) T := by
  intro u i j
  have hi : win0_0.index (pt T) 0 = T.val ∧ win0_0.index (pt T) 1 = 0 := by
    revert T; decide +kernel
  unfold mat iblk
  rw [View.read_apply]
  show (V m c main_v8 : FVec Ideal S8192x512 .f32) _ = _
  rw [V_v8]
  refine reshape_fine _ T u i j _ ?_ ?_
  · show win0_0.index (pt T) 0 * 2048 + 1 * (u.val * 512 + i.val) = _
    rw [hi.1, one_mul]
  · show win0_0.index (pt T) 1 * 512 + 1 * j.val = _
    rw [hi.2, one_mul, zero_mul, zero_add]

/-- Window 1 reads four fine images of argument 1. -/
theorem iblk1 (c : Dev nD) (T : Fin 4) :
    IsFine (mat (φ := .f32) (iblk m c 1 (pt T))) (fine (m ((c : Thread nD τ).loc main_arg1))) T := by
  intro u i j
  have hi : win0_1.index (pt T) 0 = T.val ∧ win0_1.index (pt T) 1 = 0 := by
    revert T; decide +kernel
  unfold mat iblk
  rw [View.read_apply]
  show (V m c main_v9 : FVec Ideal S8192x512 .f32) _ = _
  rw [V_v9]
  refine reshape_fine _ T u i j _ ?_ ?_
  · show win0_1.index (pt T) 0 * 2048 + 1 * (u.val * 512 + i.val) = _
    rw [hi.1, one_mul]
  · show win0_1.index (pt T) 1 * 512 + 1 * j.val = _
    rw [hi.2, one_mul, zero_mul, zero_add]

/-- Window 2 reads four fine images of argument 2. -/
theorem iblk2 (c : Dev nD) (T : Fin 4) :
    IsFine (mat (φ := .f32) (iblk m c 2 (pt T))) (fine (m ((c : Thread nD τ).loc main_arg2))) T := by
  intro u i j
  have hi : win0_2.index (pt T) 0 = T.val ∧ win0_2.index (pt T) 1 = 0 := by
    revert T; decide +kernel
  unfold mat iblk
  rw [View.read_apply]
  show (V m c main_v10 : FVec Ideal S8192x512 .f32) _ = _
  rw [V_v10]
  refine reshape_fine _ T u i j _ ?_ ?_
  · show win0_2.index (pt T) 0 * 2048 + 1 * (u.val * 512 + i.val) = _
    rw [hi.1, one_mul]
  · show win0_2.index (pt T) 1 * 512 + 1 * j.val = _
    rw [hi.2, one_mul, zero_mul, zero_add]

/-- Window 3 reads four coarse images of argument 3. -/
theorem iblk3 (c : Dev nD) (T : Fin 4) :
    IsCoarse (mat (φ := .f32) (iblk m c 3 (pt T))) (coarse (m ((c : Thread nD τ).loc main_arg3))) T := by
  intro u i j
  have hi : win0_3.index (pt T) 0 = T.val ∧ win0_3.index (pt T) 1 = 0 := by
    revert T; decide +kernel
  unfold mat iblk
  rw [View.read_apply]
  show (V m c main_v11 : FVec Ideal S1024x64 .f32) _ = _
  rw [V_v11]
  refine reshape_coarse _ T u i j _ ?_ ?_
  · show win0_3.index (pt T) 0 * 256 + 1 * (u.val * 64 + i.val) = _
    rw [hi.1, one_mul]
  · show win0_3.index (pt T) 1 * 64 + 1 * j.val = _
    rw [hi.2, one_mul, zero_mul, zero_add]

/-- The word of one sixty-fourth. -/
theorem ofBits_64th_bf16 : Ideal.ofBits .bf16 0x3C80#16 = ((1 / 64 : ℝ) : EReal) := by
  simp [Ideal.ofBits, Ideal.ieee, -EReal.coe_mul]; norm_num

/-- Window 4 reads the column-pooling table: one where `k / 8 = j`. -/
theorem iblk4 (c : Dev nD) (T : Fin 4) (k : Fin 512) (j : Fin 64) :
    mat (φ := .bf16) (iblk m c 4 (pt T)) k j = if k.val / 8 = j.val then 1 else 0 := by
  have hi : win0_4.index (pt T) 0 = 0 ∧ win0_4.index (pt T) 1 = 0 := by
    revert T; decide +kernel
  have hk := k.isLt
  have hj := j.isLt
  unfold mat iblk
  rw [View.read_apply]
  show (V m c main_cst : FVec Ideal S512x64 .bf16) _ = _
  rw [V_cst]
  show Ideal.ofBits .bf16 (lit0t (S512x64.rowMajor _).val) = _
  rw [Shape.rowMajor_val_two]
  have e : ∀ a b : ℕ, a = k.val → b = j.val → Ideal.ofBits .bf16 (lit0t (a * 64 + b)) = if k.val / 8 = j.val then 1 else 0 := by
    rintro a b rfl rfl
    rw [kpool_word _ (by omega), show (k.val * 64 + j.val) / 64 = k.val by omega, show (k.val * 64 + j.val) % 64 = j.val by omega]
    split
    · exact Ideal.ofBits_one_bf16
    · exact Ideal.ofBits_zero_bf16
  refine e _ _ ?_ ?_
  · show win0_4.index (pt T) 0 * 512 + 1 * k.val = _
    rw [hi.1, one_mul, zero_mul, zero_add]
  · show win0_4.index (pt T) 1 * 64 + 1 * j.val = _
    rw [hi.2, one_mul, zero_mul, zero_add]

/-- The row-pooling operand, read at an index: one sixty-fourth where the column over eight is the row, zero elsewhere. -/
theorem spool_apply (k : S256x2048.Idx) (q y : ℕ) (hq : q < 256) (hy : y < 2048) (h0 : (k 0).val = q) (h1 : (k 1).val = y) :
    select (cmpi .eq (Host.divsi (iotaInDim S256x2048 32 1) (broadcastInDim S256x2048 ![] bcast_S_S256x2048 (constantI S_ 32 8#32))) (iotaInDim S256x2048 32 0))
      (broadcastInDim S256x2048 ![] bcast_S_S256x2048 (constant (F := Ideal) S_ .bf16 0x3C80#16))
      (broadcastInDim S256x2048 ![] bcast_S_S256x2048 (constant (F := Ideal) S_ .bf16 0x0000#16)) k
      = (if y / 8 = q then ((1 / 64 : ℝ) : EReal) else 0 : EReal) := by
  have e0 : iotaInDim S256x2048 32 0 k = BitVec.ofNat 32 q := congrArg (BitVec.ofNat 32) h0
  have e1 : Host.divsi (iotaInDim S256x2048 32 1) (broadcastInDim S256x2048 ![] bcast_S_S256x2048 (constantI S_ 32 8#32)) k = BitVec.ofNat 32 (y / 8) := by
    show IntOp.divsi .host (BitVec.ofNat 32 (k 1).val) (BitVec.ofNat 32 8) = _
    rw [h1]
    exact Routing.divsi_word .host (by omega) (by norm_num) (by norm_num)
  have e : cmpi .eq (Host.divsi (iotaInDim S256x2048 32 1) (broadcastInDim S256x2048 ![] bcast_S_S256x2048 (constantI S_ 32 8#32))) (iotaInDim S256x2048 32 0) k = 1#1
      ↔ y / 8 = q := by
    rw [cmpi_apply, e0, e1]
    refine Predicate.cmpi_eq_iff.trans ⟨fun h => ?_, fun h => by rw [h]⟩
    have := congrArg BitVec.toNat h
    rw [BitVec.toNat_ofNat, BitVec.toNat_ofNat, Nat.mod_eq_of_lt (by omega), Nat.mod_eq_of_lt (by omega)] at this
    exact this
  refine (if_congr e ?_ ?_ : _ = _)
  · exact ofBits_64th_bf16
  · exact Ideal.ofBits_zero_bf16

/-- Window 5 reads the row-pooling operand: one sixty-fourth where `y / 8 = q`. -/
theorem iblk5 (c : Dev nD) (T : Fin 4) (q : Fin 256) (y : Fin 2048) :
    mat (φ := .bf16) (iblk m c 5 (pt T)) q y = if y.val / 8 = q.val then ((1 / 64 : ℝ) : EReal) else 0 := by
  have hi : win0_5.index (pt T) 0 = 0 ∧ win0_5.index (pt T) 1 = 0 := by
    revert T; decide +kernel
  unfold mat iblk
  rw [View.read_apply]
  show (V m c main_v7 : FVec Ideal S256x2048 .bf16) _ = _
  rw [V_v7]
  refine spool_apply _ q.val y.val q.isLt y.isLt ?_ ?_
  · show win0_5.index (pt T) 0 * 256 + 1 * q.val = _
    rw [hi.1, one_mul, zero_mul, zero_add]
  · show win0_5.index (pt T) 1 * 2048 + 1 * y.val = _
    rw [hi.2, one_mul, zero_mul, zero_add]

/-! ## The running sum -/

/-- What image `b` adds. -/
def term (c : Dev nD) (b : Fin 16) : EReal :=
  imgFine (fine (m ((c : Thread nD τ).loc main_arg0))) (fine (m ((c : Thread nD τ).loc main_arg1))) (fine (m ((c : Thread nD τ).loc main_arg2))) b
    + cC * imgCoarse (fine (m ((c : Thread nD τ).loc main_arg0))) (coarse (m ((c : Thread nD τ).loc main_arg3))) b

/-- One point's step: the accumulator (or zero at the first point) plus its four images' terms. -/
theorem step_apply (c : Dev nD) (T : Fin 4) (prev : Vec Ideal S1x1 .f32) :
    stepAt m c (pt T) prev (ix2 0 0) = ((if T.val = 0 then 0 else prev (ix2 0 0)) + ∑ u, term m c (img T u) : EReal) := by
  have hw : BitVec.ofNat 32 (grid0.coords (pt T) 0).val = 0#32 ↔ T.val = 0 := by
    revert T; decide +kernel
  unfold stepAt stepVal
  rw [show k0_pay2 (F := Ideal) (iblk m c 0 (pt T)) = iblk m c 0 (pt T) from shapeCast_id _ _, pay1_apply, pay3_apply]
  refine congrArg₂ (fun a b : EReal => a + b) (if_congr hw rfl rfl) ?_
  exact point_block (iblk0 m c T) (iblk1 m c T) (iblk2 m c T) (iblk3 m c T) (iblk4 m c T) (iblk5 m c T)

/-- The running sum after the last point is the loss. -/
theorem result_eq (c : Dev nD) : result m c (ix2 0 0) = loss (fine (m ((c : Thread nD τ).loc main_arg0))) (fine (m ((c : Thread nD τ).loc main_arg1)))
    (fine (m ((c : Thread nD τ).loc main_arg2))) (coarse (m ((c : Thread nD τ).loc main_arg3))) := by
  have e : result m c = stepAt m c (pt 3) (stepAt m c (pt 2) (stepAt m c (pt 1) (stepAt m c (pt 0) (broadcast S1x1 (Scalar.ofBits (F := Ideal) .f32 0x00000000#32))))) := rfl
  rw [e, step_apply, step_apply, step_apply, step_apply, if_neg (by decide), if_neg (by decide), if_neg (by decide), if_pos (by rfl), ← sum_images]
  refine Eq.trans ?_ (sum_points (term m c))
  rw [Fin.sum_univ_four (fun t => ∑ u : Fin 4, term m c ⟨t.val * 4 + u.val, by omega⟩)]
  rw [zero_add]
  rfl

/-- The kernel's result over the extended reals is the loss. -/
theorem value (c : Dev nD) (i : S_.Idx) : shapeCast S_ (result m c) shapeCasts_S1x1_S_ i
    = loss (fine (m ((c : Thread nD τ).loc main_arg0))) (fine (m ((c : Thread nD τ).loc main_arg1)))
      (fine (m ((c : Thread nD τ).loc main_arg2))) (coarse (m ((c : Thread nD τ).loc main_arg3))) := by
  rw [← result_eq m c]
  exact shapeCast_apply (result m c) _ i (ix2 0 0) (by have h1 := (S_.rowMajor i).isLt; have h2 := (S1x1.rowMajor (ix2 0 0)).isLt; exact (Nat.lt_one_iff.1 h2).trans (Nat.lt_one_iff.1 h1).symm)

end Cert.KernelIdeal.Hand

end
-- ==== Proof.RI.Take.lean ====
/-
  The two host operations of the reference that move columns by index (hand-written): the gather along the second axis
  and the accumulating scatter of rows, each read at one element.
-/
module

public import Idealize.ShloMosaic.PureOps.Ideal.Laws
public import Idealize.ShloMosaic.Lib.Pointwise.Index
public import Idealize.ShloMosaic.Lib.Routing.OpsPair

@[expose] public section

noncomputable section

namespace Cert.Loss

open Idealize.ShloMosaic
open scoped BigOperators

section Gather
variable {α : Type}

/-- The dimension numbers of a gather of columns: whole columns of a `[B, N]` operand at `M` column numbers. -/
abbrev colDims (B N M : Nat) (wf : GatherDims.WF ⟨2, ![B, N]⟩ ⟨2, ![M, 1]⟩ ⟨2, ![B, M]⟩ [0] [1] [] [1] [] 1 ![B, 1]) :
    GatherDims ⟨2, ![B, N]⟩ ⟨2, ![M, 1]⟩ ⟨2, ![B, M]⟩ where
  offsetDims := [0]
  collapsedSliceDims := [1]
  operandBatchingDims := []
  startIndicesBatchingDims := []
  startIndexMap := [1]
  indexVectorDim := 1
  sliceSizes := ![B, 1]
  wf := wf

/-- Column `f` of the gather is the operand's column at the number `idx f`, read signed and clamped. -/
theorem gather_col_apply {B N M w : Nat} (hN : 0 < N)
    (wf : GatherDims.WF ⟨2, ![B, N]⟩ ⟨2, ![M, 1]⟩ ⟨2, ![B, M]⟩ [0] [1] [] [1] [] 1 ![B, 1])
    (x : (⟨2, ![B, N]⟩ : Shape).Idx → α) (idx : IVec ⟨2, ![M, 1]⟩ w) (b : Fin B) (f : Fin M) :
    Host.gather (colDims B N M wf) x idx (ix2 b f) = x (ix2 b ⟨min (idx (ix2 f 0)).toInt.toNat (N - 1), by omega⟩) := by
  unfold Host.gather
  congr 1
  funext a
  refine Fin.ext ?_
  show (colDims B N M wf).start (ix2 b f) idx a + (colDims B N M wf).batchCoord (ix2 b f) a + (colDims B N M wf).offCoord (ix2 b f) a = _
  rw [GatherDims.batchCoord_eq_zero _ _ _ List.not_mem_nil, Nat.add_zero]
  match a with
  | ⟨0, _⟩ =>
    unfold GatherDims.start
    rw [dif_neg (fun h => Nat.zero_ne_one (congrArg Fin.val (List.mem_singleton.1 h))), Nat.zero_add]
    unfold GatherDims.offCoord
    rw [dif_pos ((GatherDims.mem_sKept _ _).mpr ⟨fun h => Nat.zero_ne_one (congrArg Fin.val (List.mem_singleton.1 h)), List.not_mem_nil⟩)]
    rfl
  | ⟨1, _⟩ =>
    rw [GatherDims.offCoord_eq_zero _ _ _ (fun h => ((GatherDims.mem_sKept _ _).mp h).1 (List.mem_singleton.mpr rfl)), Nat.add_zero]
    unfold GatherDims.start
    rw [dif_pos (show (⟨1, by decide⟩ : Fin 2) ∈ (colDims B N M wf).startIndexMap from List.mem_singleton.mpr rfl)]
    have hsi : ∀ h, (colDims B N M wf).siIdx (ix2 b f) ⟨List.idxOf (⟨1, by decide⟩ : Fin 2) (colDims B N M wf).startIndexMap, h⟩ = ix2 f 0 := by
      intro h
      funext a'; refine Fin.ext ?_
      match a' with
      | ⟨0, _⟩ => rfl
      | ⟨1, _⟩ => rfl
    rw [hsi]
    rfl

end Gather

/-- The dimension numbers of a scatter of rows: `M` rows of length `B` into a `[K, B]` operand at `M` row numbers. -/
abbrev rowDims (K M B : Nat) (wf : ScatterDims.WF ⟨2, ![K, B]⟩ ⟨2, ![M, 1]⟩ ⟨2, ![M, B]⟩ [1] [0] [0] 1) :
    ScatterDims ⟨2, ![K, B]⟩ ⟨2, ![M, 1]⟩ ⟨2, ![M, B]⟩ where
  updateWindowDims := [1]
  insertedWindowDims := [0]
  scatterDimsToOperandDims := [0]
  indexVectorDim := 1
  wf := wf

/-- Update `(f, b')` lands at `(n, b)` exactly when row number `f` is `n` and `b'` is `b`. -/
theorem scatter_row_lands {K M B w : Nat} (wf : ScatterDims.WF ⟨2, ![K, B]⟩ ⟨2, ![M, 1]⟩ ⟨2, ![M, B]⟩ [1] [0] [0] 1)
    (idx : IVec ⟨2, ![M, 1]⟩ w) (f : Fin M) (b' : Fin B) (n : Fin K) (b : Fin B) :
    (rowDims K M B wf).resultIdx? (ix2 f b') idx = some (ix2 n b) ↔ (idx (ix2 f 0)).toInt = (n.val : Int) ∧ b' = b := by
  have hwin0 : (rowDims K M B wf).window (ix2 f b') 0 = 0 := by
    unfold ScatterDims.window
    rw [dif_neg fun h => (of_decide_eq_true (List.mem_filter.1 h).2) (List.mem_singleton.2 rfl)]
  have hwin1 : (rowDims K M B wf).window (ix2 f b') 1 = b'.val := by
    unfold ScatterDims.window
    rw [dif_pos (show (1 : Fin 2) ∈ (rowDims K M B wf).sKept from List.mem_filter.2 ⟨List.mem_finRange _, by simp⟩)]
    rfl
  have hstart1 : (rowDims K M B wf).start (ix2 f b') idx 1 = 0 := by
    unfold ScatterDims.start
    rw [dif_neg fun h => absurd (List.mem_singleton.1 h) (by decide : (1 : Fin 2) ≠ 0)]
  have hstart0 : (rowDims K M B wf).start (ix2 f b') idx 0 = (idx (ix2 f 0)).toInt := by
    unfold ScatterDims.start
    rw [dif_pos (show (0 : Fin 2) ∈ (rowDims K M B wf).scatterDimsToOperandDims from List.mem_singleton.2 rfl)]
    have hsi : ∀ h, (rowDims K M B wf).siIdx (ix2 f b') ⟨List.idxOf (0 : Fin 2) (rowDims K M B wf).scatterDimsToOperandDims, h⟩ = ix2 f 0 := by
      intro h
      funext a'; refine Fin.ext ?_
      match a' with
      | ⟨0, _⟩ => rfl
      | ⟨1, _⟩ => rfl
    rw [hsi]
  rw [Routing.resultIdx?_eq_some, Fin.ext_iff]
  constructor
  · intro h
    have h0 := h 0
    have h1 := h 1
    rw [hstart0, hwin0] at h0
    rw [hstart1, hwin1] at h1
    change _ = ((n.val : ℕ) : Int) at h0
    change _ = ((b.val : ℕ) : Int) at h1
    omega
  · rintro ⟨h0, h1⟩ a
    match a with
    | ⟨0, _⟩ =>
      show (rowDims K M B wf).start (ix2 f b') idx 0 + ((rowDims K M B wf).window (ix2 f b') 0 : Int) = ((n.val : ℕ) : Int)
      rw [hstart0, hwin0]; omega
    | ⟨1, _⟩ =>
      show (rowDims K M B wf).start (ix2 f b') idx 1 + ((rowDims K M B wf).window (ix2 f b') 1 : Int) = ((b.val : ℕ) : Int)
      rw [hstart1, hwin1]; omega

/-- Element `(n, b)` of the accumulating scatter at the reals: the operand's plus the sum of the updates' column `b` over
    the rows numbered `n`. -/
theorem scatterAdd_row_apply {K M B w : Nat} {φ : FTy} (wf : ScatterDims.WF ⟨2, ![K, B]⟩ ⟨2, ![M, 1]⟩ ⟨2, ![M, B]⟩ [1] [0] [0] 1)
    (x : FVec Ideal ⟨2, ![K, B]⟩ φ) (idx : IVec ⟨2, ![M, 1]⟩ w) (upd : FVec Ideal ⟨2, ![M, B]⟩ φ) (n : Fin K) (b : Fin B) :
    Host.scatterAdd (rowDims K M B wf) x idx upd (ix2 n b)
      = (x (ix2 n b) + ∑ f : Fin M, if (idx (ix2 f 0)).toInt = (n.val : Int) then (upd (ix2 f b) : EReal) else 0 : EReal) := by
  show (x (ix2 n b) + ∑ j ∈ Finset.univ.filter (fun j => (rowDims K M B wf).resultIdx? j idx = some (ix2 n b)), upd j : EReal) = _
  congr 1
  rw [Finset.sum_filter, sum_idx2]
  refine Finset.sum_congr rfl fun f _ => ?_
  simp only [scatter_row_lands]
  rw [Finset.sum_eq_single b]
  · simp
  · intro b' _ hb'; rw [if_neg (fun h => hb' h.2)]
  · intro h; exact absurd (Finset.mem_univ b) h

end Cert.Loss

end
-- ==== Proof.RI.Pool.lean ====
/-
  The reference's block average (hand-written): with the sparse operator as set up (entry `f` at column `f`, at the row of
  the block that holds `f`, value 1/64), the gather, the product and the accumulating scatter leave each coarse element
  at the average of its 8 × 8 block.
-/
module

public import proofs.«01_k».proof.Proof.Gen.ReferenceIdeal.Read
public import proofs.«01_k».proof.Proof.RI.Take
public import proofs.«01_k».proof.Proof.Loss.Spec
public import Idealize.ShloMosaic.Lib.StableHlo.Predicate
public import Idealize.ShloMosaic.Lib.ReduceAll

@[expose] public section

set_option maxRecDepth 16384

noncomputable section

namespace Cert.ReferenceIdeal.Hand

open Cert.ReferenceIdeal Cert.ReferenceIdeal.Gen Cert.ReferenceIdeal.Read Cert.Loss
open Idealize.ShloMosaic Idealize.ShloMosaic.StableHlo
open scoped BigOperators

/-- The block of a fine position `f = 512 i + j`, numbered along the rows of 64 blocks. -/
def blockOf (f : ℕ) : ℕ := f / 512 / 8 * 64 + f % 512 / 8

/-- The column numbers as set up. -/
def ColsSet (x7 : IVec S262144 32) : Prop := ∀ f : Fin 262144, x7 (ix1 f) = BitVec.ofNat 32 f.val
/-- The row numbers as set up. -/
def RowsSet (x6 : IVec S262144 32) : Prop := ∀ f : Fin 262144, x6 (ix1 f) = BitVec.ofNat 32 (blockOf f.val)

/-- A column number is in range, so the wrap of negative numbers leaves it. -/
theorem call0_v4_eq (x7 : IVec S262144 32) (h7 : ColsSet x7) (f : Fin 262144) :
    val_main_call0_v4 (F := Ideal) x7 (ix1 f) = BitVec.ofNat 32 f.val := by
  have hf := f.isLt
  rw [val_main_call0_v4_apply, val_main_call0_v1_apply, val_main_call0_v0_apply, val_main_call0_c_apply, Routing.wrap_of_lt, h7]
  rw [h7, BitVec.toNat_ofNat]; omega

theorem call0_v5_eq (x7 : IVec S262144 32) (h7 : ColsSet x7) (f : Fin 262144) (z : Fin 1) :
    val_main_call0_v5 (F := Ideal) x7 (ix2 f z) = BitVec.ofNat 32 f.val := by
  rw [val_main_call0_v5_apply, show idx_main_call0_v5 (ix2 f z) = ix1 f from by funext a; match a with | ⟨0, _⟩ => rfl, call0_v4_eq x7 h7]

/-- The bounds test of every column number passes. -/
theorem call0_v11_eq (x7 : IVec S262144 32) (h7 : ColsSet x7) (i : S262144x1.Idx) : val_main_call0_v11 (F := Ideal) x7 i = 1#1 := by
  obtain ⟨f, z, rfl⟩ : ∃ (f : Fin 262144) (z : Fin 1), i = ix2 f z := ⟨i 0, i 1, eq_ix2 i⟩
  have hf := f.isLt
  have ht : (BitVec.ofNat 32 f.val).toNat = f.val := by rw [BitVec.toNat_ofNat]; omega
  rw [val_main_call0_v11_apply, val_main_call0_v7_apply, val_main_call0_v10_apply, call0_v5_eq x7 h7,
    val_main_call0_v6_apply, val_main_call0_c_2_apply, val_main_call0_v9_apply, val_main_call0_v8_apply, val_main_call0_c_1_apply]
  have e1 : IntOp.cmpi .sge (BitVec.ofNat 32 f.val) 0#32 = 1#1 :=
    (Predicate.sge_iff_toNat (by rw [ht]; omega) (by decide)).2 (by rw [ht]; exact Nat.zero_le _)
  have e2 : IntOp.cmpi .sle (BitVec.ofNat 32 f.val) 262143#32 = 1#1 :=
    (Predicate.sle_iff_toNat (by rw [ht]; omega) (by decide)).2 (by
      rw [ht]; show f.val ≤ 262143; omega)
  rw [e1, e2]; rfl

/-- So the take reads the fine field at the position that `f` numbers. -/
theorem v10_eq (x0 : FVec Ideal S16x512x512 .f32) (x7 : IVec S262144 32) (h7 : ColsSet x7) (b : Fin 16) (f : Fin 262144) :
    val_main_v10 (F := Ideal) x0 x7 (ix2 b f) = x0 (ix3 b ⟨f.val / 512, by omega⟩ ⟨f.val % 512, by omega⟩) := by
  have hf := f.isLt
  have hm : val_main_call0_v14 (F := Ideal) x7 (ix2 b f) = 1#1 := by
    rw [val_main_call0_v14_apply]
    unfold val_main_call0_v12
    exact Host.reduce_andi_one _ _ _ _ _ rfl (call0_v11_eq x7 h7)
  rw [val_main_v10_apply, hm]
  show val_main_call0_v13 (F := Ideal) x0 x7 (ix2 b f) = _
  unfold val_main_call0_v13
  refine (gather_col_apply (by decide) _ (val_main_v9 (F := Ideal) x0) (val_main_call0_v5 (F := Ideal) x7) b f).trans ?_
  have e : ∀ h, (⟨min (val_main_call0_v5 (F := Ideal) x7 (ix2 f 0)).toInt.toNat (262144 - 1), h⟩ : Fin 262144) = f := fun h => Fin.ext (by
    show min (val_main_call0_v5 (F := Ideal) x7 (ix2 f 0)).toInt.toNat (262144 - 1) = f.val
    rw [call0_v5_eq x7 h7, Predicate.toInt_ofNat_small _ (by omega)]; omega)
  rw [e, val_main_v9_apply]
  have hb := b.isLt
  refine congrArg x0 (funext fun a => Fin.ext ?_)
  match a with
  | ⟨0, _⟩ => show (b.val * 262144 + f.val) / 262144 = b.val; omega
  | ⟨1, _⟩ => show (b.val * 262144 + f.val) / 512 % 512 = f.val / 512; omega
  | ⟨2, _⟩ => show (b.val * 262144 + f.val) % 512 = f.val % 512; omega

/-- The updates of the scatter: the fine field over 64. -/
theorem v14_eq (x0 : FVec Ideal S16x512x512 .f32) (x7 : IVec S262144 32) (x8 : FVec Ideal S262144 .f32) (h7 : ColsSet x7)
    (h8 : ∀ f, x8 f = ((1 / 64 : ℝ) : EReal)) (b : Fin 16) (f : Fin 262144) :
    val_main_v14 (F := Ideal) x0 x7 x8 (ix2 f b) = (x0 (ix3 b ⟨f.val / 512, by omega⟩ ⟨f.val % 512, by omega⟩) * ((1 / 64 : ℝ) : EReal) : EReal) := by
  rw [val_main_v14_apply, val_main_v11_apply, val_main_v13_apply, val_main_v12_apply, h8,
    show idx_main_v11 (ix2 f b) = ix2 b f from by funext a; match a with | ⟨0, _⟩ => rfl | ⟨1, _⟩ => rfl, v10_eq x0 x7 h7]
  rfl

/-- The coarse field is the block average. -/
theorem v19_eq (x0 : FVec Ideal S16x512x512 .f32) (x6 x7 : IVec S262144 32) (x8 : FVec Ideal S262144 .f32) (h6 : RowsSet x6) (h7 : ColsSet x7)
    (h8 : ∀ f, x8 f = ((1 / 64 : ℝ) : EReal)) (b : Fin 16) (ci cj : Fin 64) :
    val_main_v19 (F := Ideal) x0 x6 x7 x8 (ix3 b ci cj) = blockAvg (fun b i j => x0 (ix3 b i j)) b ci cj := by
  have hi := ci.isLt
  have hj := cj.isLt
  have hb := b.isLt
  have hn : ci.val * 64 + cj.val < 4096 := by omega
  have hidx : idx_main_v18 (idx_main_v19 (ix3 b ci cj)) = ix2 (⟨ci.val * 64 + cj.val, hn⟩ : Fin 4096) b := by
    funext a; refine Fin.ext ?_
    match a with
    | ⟨0, _⟩ => show ((b.val * 64 + ci.val) * 64 + cj.val) % 4096 = ci.val * 64 + cj.val; omega
    | ⟨1, _⟩ => show ((b.val * 64 + ci.val) * 64 + cj.val) / 4096 = b.val; omega
  rw [val_main_v19_apply, val_main_v18_apply, hidx]
  unfold val_main_v17
  refine (scatterAdd_row_apply _ (val_main_v15 (F := Ideal)) (val_main_v16 (F := Ideal) x6) (val_main_v14 (F := Ideal) x0 x7 x8) _ b).trans ?_
  rw [val_main_v15_apply, val_main_cst_2_apply, show (FloatOps.ofBits .f32 0x00000000#32 : Ideal .f32) = (0 : EReal) from Ideal.ofBits_zero_f32, zero_add,
    sum_mul_eq 512 512 262144 rfl]
  unfold blockAvg
  refine Finset.sum_congr rfl fun i _ => Finset.sum_congr rfl fun j _ => ?_
  have hI := i.isLt
  have hJ := j.isLt
  rw [v14_eq x0 x7 x8 h7 h8, val_main_v16_apply,
    show idx_main_v16 (ix2 (⟨i.val * 512 + j.val, by omega⟩ : Fin 262144) 0) = ix1 (⟨i.val * 512 + j.val, by omega⟩ : Fin 262144) from by
      funext a; match a with | ⟨0, _⟩ => rfl,
    h6]
  have hd : (i.val * 512 + j.val) / 512 = i.val := by omega
  have hr : (i.val * 512 + j.val) % 512 = j.val := by omega
  have hB : blockOf (i.val * 512 + j.val) = i.val / 8 * 64 + j.val / 8 := by unfold blockOf; rw [hd, hr]
  rw [Predicate.toInt_ofNat_small _ (by rw [hB]; omega), hB]
  have hiff : (((i.val / 8 * 64 + j.val / 8 : ℕ) : ℤ) = ((ci.val * 64 + cj.val : ℕ) : ℤ)) ↔ (i.val / 8 = ci.val ∧ j.val / 8 = cj.val) := by omega
  simp only [hiff, hd, hr, Fin.eta]

end Cert.ReferenceIdeal.Hand

end
-- ==== Proof.RI.Value.lean ====
/-
  The reference's value (hand-written): with every mask entry set and the sparse operator as set up, the reference's scalar
  is the loss of `Proof/Loss/Spec.lean`.
-/
module

public import proofs.«01_k».proof.Proof.RI.Pool
public import Idealize.ShloMosaic.Lib.IdealHost

@[expose] public section

set_option maxRecDepth 16384

noncomputable section

namespace Cert.ReferenceIdeal.Hand

open Cert.ReferenceIdeal Cert.ReferenceIdeal.Gen Cert.ReferenceIdeal.Read Cert.Loss
open Idealize.ShloMosaic Idealize.ShloMosaic.StableHlo
open scoped BigOperators

/-! ## Constants and masks at the reals -/

theorem ofBits_ten : Ideal.ofBits .f32 0x41200000#32 = ((10 : ℝ) : EReal) := by
  simp [Ideal.ofBits, Ideal.ieee, -EReal.coe_mul]; norm_num
theorem ofBits_lambda : Ideal.ofBits .f32 0x3C23D70A#32 = ((5368709 / 536870912 : ℝ) : EReal) := by
  simp [Ideal.ofBits, Ideal.ieee, -EReal.coe_mul]; norm_num
theorem ofBits_alpha : Ideal.ofBits .f32 0x3DCCCCCD#32 = ((13421773 / 134217728 : ℝ) : EReal) := by
  simp [Ideal.ofBits, Ideal.ieee, -EReal.coe_mul]; norm_num
theorem ofBits_64th : Ideal.ofBits .f32 0x3C800000#32 = ((1 / 64 : ℝ) : EReal) := by
  simp [Ideal.ofBits, Ideal.ieee, -EReal.coe_mul]; norm_num

/-- A set mask entry counts one. -/
theorem uitofp_set : (FloatOps.uitofp .f32 (1#1) : Ideal .f32) = (1 : EReal) := by
  show (((1#1 : BitVec 1).toNat : ℝ) : EReal) = 1
  simp

/-- A sum of a constant over `n` numbers. -/
theorem sum_const_real (n : ℕ) (k : ℝ) : ∑ _i : Fin n, (k : EReal) = ((n * k : ℝ) : EReal) := by
  induction n with
  | zero => simp
  | succ n ih => rw [Fin.sum_univ_castSucc, ih, ← EReal.coe_add]; congr 1; push_cast; ring

/-- A mean over `n` entries, all counted: the sum over the larger of the count and one. -/
theorem mean_eq (s : EReal) (n : ℝ) (hn : 1 ≤ n) :
    Ideal.div (0 + s) (max (0 + (n : EReal)) 1) = s * ((1 / n : ℝ) : EReal) := by
  have hm : max (n : EReal) 1 = (n : EReal) := max_eq_left (by rw [← EReal.coe_one]; exact EReal.coe_le_coe_iff.2 hn)
  have h0 : (n : EReal) ≠ 0 := fun e => by
    have : n = 0 := by exact_mod_cast e
    linarith
  rw [zero_add, zero_add, hm]
  unfold Ideal.div
  rw [if_neg h0, ← EReal.coe_inv, one_div]

variable (x0 x1 x2 : FVec Ideal S16x512x512 .f32) (x3 : FVec Ideal S16x64x64 .f32) (x4 : IVec S16x512x512 1) (x5 : IVec S16x64x64 1)
  (x6 x7 : IVec S262144 32) (x8 : FVec Ideal S262144 .f32)

/-- A fine array's elements by image, row and column. -/
abbrev fine (x : FVec Ideal S16x512x512 .f32) : Fine := fun b i j => x (ix3 b i j)
/-- A coarse array's elements by image, row and column. -/
abbrev coarse (x : FVec Ideal S16x64x64 .f32) : Coarse := fun b i j => x (ix3 b i j)

theorem v3_eq (h4 : ∀ i, x4 i = 1#1) (i : S16x512x512.Idx) : val_main_v3 (F := Ideal) x4 i = (1 : EReal) := by
  rw [val_main_v3_apply, h4, uitofp_set]
theorem v29_eq (h4 : ∀ i, x4 i = 1#1) (i : S16x512x512.Idx) : val_main_v29 (F := Ideal) x4 i = (1 : EReal) := by
  rw [val_main_v29_apply, h4, uitofp_set]
theorem v22_eq (h5 : ∀ i, x5 i = 1#1) (i : S16x64x64.Idx) : val_main_v22 (F := Ideal) x5 i = (1 : EReal) := by
  rw [val_main_v22_apply, h5, uitofp_set]
theorem v48_eq (h4 : ∀ i, x4 i = 1#1) (i : S16x511x512.Idx) : val_main_v48 (F := Ideal) x4 i = (1 : EReal) := by
  rw [val_main_v48_apply, val_main_v43_apply, val_main_v41_apply, val_main_v42_apply, h4, h4]; exact uitofp_set
theorem v55_eq (h4 : ∀ i, x4 i = 1#1) (i : S16x512x511.Idx) : val_main_v55 (F := Ideal) x4 i = (1 : EReal) := by
  rw [val_main_v55_apply, val_main_v46_apply, val_main_v44_apply, val_main_v45_apply, h4, h4]; exact uitofp_set

theorem count_fine : ∑ _j : S16x512x512.Idx, (1 : EReal) = ((4194304 : ℝ) : EReal) := by
  rw [sum_idx3]; simp only [← EReal.coe_one, sum_const_real]; norm_num
theorem count_coarse : ∑ _j : S16x64x64.Idx, (1 : EReal) = ((65536 : ℝ) : EReal) := by
  rw [sum_idx3]; simp only [← EReal.coe_one, sum_const_real]; norm_num
theorem count_lat : ∑ _j : S16x511x512.Idx, (1 : EReal) = ((4186112 : ℝ) : EReal) := by
  rw [sum_idx3]; simp only [← EReal.coe_one, sum_const_real]; norm_num
theorem count_lon : ∑ _j : S16x512x511.Idx, (1 : EReal) = ((4186112 : ℝ) : EReal) := by
  rw [sum_idx3]; simp only [← EReal.coe_one, sum_const_real]; norm_num

/-! ## The five means -/

/-- The observation misfit's mean. -/
theorem v8_eq (h4 : ∀ i, x4 i = 1#1) (i : S_.Idx) :
    val_main_v8 (F := Ideal) x0 x1 x2 x4 i = (sumW (fine x0) (fine x1) (fine x2) * ((1 / 4194304 : ℝ) : EReal) : EReal) := by
  have e : ∑ j : S16x512x512.Idx, (val_main_v6 (F := Ideal) x0 x1 x2 x4 j : EReal) = sumW (fine x0) (fine x1) (fine x2) := by
    rw [sum_idx3]; unfold sumW
    refine Finset.sum_congr rfl fun b _ => Finset.sum_congr rfl fun i _ => Finset.sum_congr rfl fun j _ => ?_
    rw [val_main_v6_apply, v3_eq x4 h4, val_main_v2_apply, val_main_v1_apply, val_main_v0_apply]
    exact mul_one _
  have e3 : ∑ j : S16x512x512.Idx, (val_main_v3 (F := Ideal) x4 j : EReal) = ((4194304 : ℝ) : EReal) := by
    simp only [v3_eq x4 h4]; exact count_fine
  rw [val_main_v8_apply, val_main_v7_apply, val_main_v5_apply, val_main_v4_apply, val_main_cst_apply, val_main_cst_1_apply, val_main_cst_0_apply]
  simp only [Ideal.ofBits_def, Ideal.ofBits_zero_f32, Ideal.ofBits_one_f32, Ideal.maximumf_def, Ideal.hostDivf_def]
  rw [← mean_eq _ _ (by norm_num), ← e, ← e3]

/-- The amplitude's mean. -/
theorem v34_eq (h4 : ∀ i, x4 i = 1#1) (i : S_.Idx) :
    val_main_v34 (F := Ideal) x1 x4 i = (sumA (fine x1) * ((1 / 4194304 : ℝ) : EReal) : EReal) := by
  have e : ∑ j : S16x512x512.Idx, (val_main_v32 (F := Ideal) x1 x4 j : EReal) = sumA (fine x1) := by
    rw [sum_idx3]; unfold sumA
    refine Finset.sum_congr rfl fun b _ => Finset.sum_congr rfl fun i _ => Finset.sum_congr rfl fun j _ => ?_
    rw [val_main_v32_apply, v29_eq x4 h4, val_main_v28_apply]
    exact mul_one _
  have e3 : ∑ j : S16x512x512.Idx, (val_main_v29 (F := Ideal) x4 j : EReal) = ((4194304 : ℝ) : EReal) := by
    simp only [v29_eq x4 h4]; exact count_fine
  rw [val_main_v34_apply, val_main_v33_apply, val_main_v31_apply, val_main_v30_apply, val_main_cst_6_apply, val_main_cst_8_apply, val_main_cst_7_apply]
  simp only [Ideal.ofBits_def, Ideal.ofBits_zero_f32, Ideal.ofBits_one_f32, Ideal.maximumf_def, Ideal.hostDivf_def]
  rw [← mean_eq _ _ (by norm_num), ← e, ← e3]

/-- The coarse misfit's mean. -/
theorem v27_eq (h5 : ∀ i, x5 i = 1#1) (h6 : RowsSet x6) (h7 : ColsSet x7) (h8 : ∀ f, x8 f = ((1 / 64 : ℝ) : EReal)) (i : S_.Idx) :
    val_main_v27 (F := Ideal) x0 x3 x5 x6 x7 x8 i = (sumC (fine x0) (coarse x3) * ((1 / 65536 : ℝ) : EReal) : EReal) := by
  have e : ∑ j : S16x64x64.Idx, (val_main_v25 (F := Ideal) x0 x3 x5 x6 x7 x8 j : EReal) = sumC (fine x0) (coarse x3) := by
    rw [sum_idx3]; unfold sumC
    refine Finset.sum_congr rfl fun b _ => Finset.sum_congr rfl fun i _ => Finset.sum_congr rfl fun j _ => ?_
    rw [val_main_v25_apply, v22_eq x5 h5, val_main_v21_apply, val_main_v20_apply, v19_eq x0 x6 x7 x8 h6 h7 h8]
    exact mul_one _
  have e3 : ∑ j : S16x64x64.Idx, (val_main_v22 (F := Ideal) x5 j : EReal) = ((65536 : ℝ) : EReal) := by
    simp only [v22_eq x5 h5]; exact count_coarse
  rw [val_main_v27_apply, val_main_v26_apply, val_main_v24_apply, val_main_v23_apply, val_main_cst_3_apply, val_main_cst_5_apply, val_main_cst_4_apply]
  simp only [Ideal.ofBits_def, Ideal.ofBits_zero_f32, Ideal.ofBits_one_f32, Ideal.maximumf_def, Ideal.hostDivf_def]
  rw [← mean_eq _ _ (by norm_num), ← e, ← e3]

/-- The row differences' mean. -/
theorem v53_eq (h4 : ∀ i, x4 i = 1#1) (i : S_.Idx) :
    val_main_v53 (F := Ideal) x1 x4 i = (sumLat (fine x1) * ((1 / 4186112 : ℝ) : EReal) : EReal) := by
  have e : ∑ j : S16x511x512.Idx, (val_main_v51 (F := Ideal) x1 x4 j : EReal) = sumLat (fine x1) := by
    rw [sum_idx3]; unfold sumLat
    refine Finset.sum_congr rfl fun b _ => Finset.sum_congr rfl fun i _ => Finset.sum_congr rfl fun j _ => ?_
    rw [val_main_v51_apply, v48_eq x4 h4, val_main_v47_apply, val_main_v37_apply, val_main_v35_apply, val_main_v36_apply,
      show idx_main_v35 (ix3 b i j) = ix3 b i.succ j from by
        funext a; match a with | ⟨0, _⟩ => rfl | ⟨1, _⟩ => exact Fin.ext (Nat.add_comm 1 i.val) | ⟨2, _⟩ => rfl,
      show idx_main_v36 (ix3 b i j) = ix3 b i.castSucc j from by
        funext a; match a with | ⟨0, _⟩ => rfl | ⟨1, _⟩ => rfl | ⟨2, _⟩ => rfl]
    exact mul_one _
  have e3 : ∑ j : S16x511x512.Idx, (val_main_v48 (F := Ideal) x4 j : EReal) = ((4186112 : ℝ) : EReal) := by
    simp only [v48_eq x4 h4]; exact count_lat
  rw [val_main_v53_apply, val_main_v52_apply, val_main_v50_apply, val_main_v49_apply, val_main_cst_9_apply, val_main_cst_11_apply, val_main_cst_10_apply]
  simp only [Ideal.ofBits_def, Ideal.ofBits_zero_f32, Ideal.ofBits_one_f32, Ideal.maximumf_def, Ideal.hostDivf_def]
  rw [← mean_eq _ _ (by norm_num), ← e, ← e3]

/-- The column differences' mean. -/
theorem v60_eq (h4 : ∀ i, x4 i = 1#1) (i : S_.Idx) :
    val_main_v60 (F := Ideal) x1 x4 i = (sumLon (fine x1) * ((1 / 4186112 : ℝ) : EReal) : EReal) := by
  have e : ∑ j : S16x512x511.Idx, (val_main_v58 (F := Ideal) x1 x4 j : EReal) = sumLon (fine x1) := by
    rw [sum_idx3]; unfold sumLon
    refine Finset.sum_congr rfl fun b _ => Finset.sum_congr rfl fun i _ => Finset.sum_congr rfl fun j _ => ?_
    rw [val_main_v58_apply, v55_eq x4 h4, val_main_v54_apply, val_main_v40_apply, val_main_v38_apply, val_main_v39_apply,
      show idx_main_v38 (ix3 b i j) = ix3 b i j.succ from by
        funext a; match a with | ⟨0, _⟩ => rfl | ⟨1, _⟩ => rfl | ⟨2, _⟩ => exact Fin.ext (Nat.add_comm 1 j.val),
      show idx_main_v39 (ix3 b i j) = ix3 b i j.castSucc from by
        funext a; match a with | ⟨0, _⟩ => rfl | ⟨1, _⟩ => rfl | ⟨2, _⟩ => rfl]
    exact mul_one _
  have e3 : ∑ j : S16x512x511.Idx, (val_main_v55 (F := Ideal) x4 j : EReal) = ((4186112 : ℝ) : EReal) := by
    simp only [v55_eq x4 h4]; exact count_lon
  rw [val_main_v60_apply, val_main_v59_apply, val_main_v57_apply, val_main_v56_apply, val_main_cst_12_apply, val_main_cst_14_apply, val_main_cst_13_apply]
  simp only [Ideal.ofBits_def, Ideal.ofBits_zero_f32, Ideal.ofBits_one_f32, Ideal.maximumf_def, Ideal.hostDivf_def]
  rw [← mean_eq _ _ (by norm_num), ← e, ← e3]

/-- The reference's scalar is the loss. -/
theorem v68_eq (h4 : ∀ i, x4 i = 1#1) (h5 : ∀ i, x5 i = 1#1) (h6 : RowsSet x6) (h7 : ColsSet x7) (h8 : ∀ f, x8 f = ((1 / 64 : ℝ) : EReal)) (i : S_.Idx) :
    val_main_v68 (F := Ideal) x0 x1 x2 x3 x4 x5 x6 x7 x8 i = loss (fine x0) (fine x1) (fine x2) (coarse x3) := by
  rw [val_main_v68_apply, val_main_v66_apply, val_main_v67_apply, val_main_v64_apply, val_main_v65_apply, val_main_v63_apply, val_main_v62_apply,
    val_main_v61_apply, v8_eq x0 x1 x2 x4 h4, v27_eq x0 x3 x5 x6 x7 x8 h5 h6 h7 h8, v34_eq x1 x4 h4, v53_eq x1 x4 h4, v60_eq x1 x4 h4,
    val_main_cst_15_apply, val_main_cst_16_apply, val_main_cst_17_apply, val_main_cst_18_apply]
  simp only [Ideal.ofBits_def, Ideal.ofBits_one_f32, ofBits_ten, ofBits_lambda, ofBits_alpha, Ideal.addf_def, Ideal.mulf_def]
  exact ref_eq _ _ _ _ _

end Cert.ReferenceIdeal.Hand

end
-- ==== Proof.RI.Setup.lean ====
/-
  What the precondition says of the arrays (hand-written): both masks all set, and the sparse operator's rows, columns and
  values those of the 8-by-8 block average.
-/
module

public import proofs.«01_k».proof.Proof.RI.Value
public import proofs.«01_k».proof.Pre_as_set_up
public import Idealize.ShloMosaic.Lib.Routing.Words
public import Idealize.ShloMosaic.Lib.StableHlo.Predicate

@[expose] public section

noncomputable section

namespace Cert.ReferenceIdeal.Hand

open Cert.ReferenceIdeal Cert.Loss
open Idealize.ShloMosaic Idealize.ShloMosaic.StableHlo

/-- The predicate's one side condition. -/
theorem pre_facts : Cert.Pre_as_set_up.Facts where
  bcast_S_S262144 := by decide

/-- An equality test on extended reals that answers one says they are equal. -/
theorem eq_of_cmpf {x y : Ideal .f32} (h : FloatOps.cmpf .oeq x y = 1#1) : x = y := by
  by_contra hne
  rw [Ideal.cmpf_def] at h
  simp [Ideal.cmp, hne] at h

variable (x0 x1 x2 : FVec Ideal S16x512x512 .f32) (x3 : FVec Ideal S16x64x64 .f32) (x4 : IVec S16x512x512 1) (x5 : IVec S16x64x64 1)
  (x6 x7 : IVec S262144 32) (x8 : FVec Ideal S262144 .f32)

/-- The column numbers are the fine pixels' own numbers. -/
theorem cols_of_pre [Cert.Pre_as_set_up.Facts]
    (h : (Cert.Pre_as_set_up.fn (F := Ideal) x0 x1 x2 x3 x4 x5 x6 x7 x8).2.2.2.1 = (fun _ => 1#1)) : ColsSet x7 := fun f =>
  Predicate.cmpi_eq_iff.1 (congrFun h (ix1 f))

/-- The row numbers are the blocks holding the fine pixels. -/
theorem rows_of_pre [Cert.Pre_as_set_up.Facts]
    (h : (Cert.Pre_as_set_up.fn (F := Ideal) x0 x1 x2 x3 x4 x5 x6 x7 x8).2.2.1 = (fun _ => 1#1)) : RowsSet x6 := fun f => by
  have e := Predicate.cmpi_eq_iff.1 (congrFun h (ix1 f))
  have hf := f.isLt
  refine e.trans ?_
  show IntOp.divsi .host (IntOp.divsi .host (BitVec.ofNat 32 f.val) (BitVec.ofNat 32 512)) (BitVec.ofNat 32 8) * BitVec.ofNat 32 64
    + IntOp.divsi .host (IntOp.remsi .host (BitVec.ofNat 32 f.val) (BitVec.ofNat 32 512)) (BitVec.ofNat 32 8) = _
  rw [Routing.divsi_word .host (a := f.val) (by omega) (by omega) (by omega), Routing.divsi_word .host (a := f.val / 512) (by omega) (by omega) (by omega),
    Routing.remsi_word .host (a := f.val) (by omega) (by omega) (by omega), Routing.divsi_word .host (a := f.val % 512) (by omega) (by omega) (by omega),
    ← BitVec.ofNat_mul, ← BitVec.ofNat_add]
  rfl

/-- The operator's entries are one sixty-fourth. -/
theorem vals_of_pre [Cert.Pre_as_set_up.Facts]
    (h : (Cert.Pre_as_set_up.fn (F := Ideal) x0 x1 x2 x3 x4 x5 x6 x7 x8).2.2.2.2 = (fun _ => 1#1)) (f : S262144.Idx) :
    x8 f = ((1 / 64 : ℝ) : EReal) :=
  (eq_of_cmpf (congrFun h f)).trans ofBits_64th

/-- Under the precondition the reference's scalar is the loss. -/
theorem value_of_pre [Cert.Pre_as_set_up.Facts]
    (h : (Cert.Pre_as_set_up.fn (F := Ideal) x0 x1 x2 x3 x4 x5 x6 x7 x8).1 = (fun _ => 1#1)
      ∧ (Cert.Pre_as_set_up.fn (F := Ideal) x0 x1 x2 x3 x4 x5 x6 x7 x8).2.1 = (fun _ => 1#1)
      ∧ (Cert.Pre_as_set_up.fn (F := Ideal) x0 x1 x2 x3 x4 x5 x6 x7 x8).2.2.1 = (fun _ => 1#1)
      ∧ (Cert.Pre_as_set_up.fn (F := Ideal) x0 x1 x2 x3 x4 x5 x6 x7 x8).2.2.2.1 = (fun _ => 1#1)
      ∧ (Cert.Pre_as_set_up.fn (F := Ideal) x0 x1 x2 x3 x4 x5 x6 x7 x8).2.2.2.2 = (fun _ => 1#1)) (i : S_.Idx) :
    Cert.ReferenceIdeal.Read.val_main_v68 (F := Ideal) x0 x1 x2 x3 x4 x5 x6 x7 x8 i = loss (fine x0) (fine x1) (fine x2) (coarse x3) :=
  v68_eq x0 x1 x2 x3 x4 x5 x6 x7 x8 (fun i => congrFun h.1 i) (fun i => congrFun h.2.1 i)
    (rows_of_pre x0 x1 x2 x3 x4 x5 x6 x7 x8 h.2.2.1) (cols_of_pre x0 x1 x2 x3 x4 x5 x6 x7 x8 h.2.2.2.1)
    (vals_of_pre x0 x1 x2 x3 x4 x5 x6 x7 x8 h.2.2.2.2) i

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.P.Body
public import proofs.«01_k».proof.Proof.PI.Value
public import proofs.«01_k».proof.Proof.RI.Setup
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: its run, and a signature without semaphores. -/
theorem reference_frame : @Cert.quiescent_ReferenceIdeal Cert.ReferenceIdeal.Gen.facts := fun m g _ =>
  (θ_run _ _ _).mono (fun r h => ⟨fun c => (h c).2, sem_eq_zero_of_no_sems (by decide) r.2⟩) (Cert.ReferenceIdeal.Value.run m g)

/-- The kernel and the reference compute one function over the extended reals: each ends at the loss. -/
theorem algebraic : @Cert.algebraic_KernelIdeal_ReferenceIdeal_pre_as_set_up Cert.KernelIdeal.Gen.facts Cert.ReferenceIdeal.Gen.facts
    Cert.ReferenceIdeal.Hand.pre_facts := by
  intro m g m' g' hpre hargs
  refine ⟨fun c => shapeCast Cert.KernelIdeal.S_ (Cert.KernelIdeal.Hand.result m c) Cert.KernelIdeal.Gen.facts.shapeCasts_S1x1_S_,
    (θ_run _ _ _).mono (fun r h c => ⟨h.1 c, h.2.1 c⟩) (θ_run_and (Cert.KernelIdeal.Hand.run m g) (Cert.KernelIdeal.Hand.frame m g)),
    (θ_run _ _ _).mono (fun r h c => ⟨(h c).1.trans ?_, (h c).2⟩) (Cert.ReferenceIdeal.Value.run m' g')⟩
  obtain ⟨h0, h1, h2, h3, h4, h5, h6, h7, h8⟩ := hargs c
  refine (Cert.ReferenceIdeal.Read.val_main_v68_eq m' c).trans (funext fun i => ?_)
  rw [h0, h1, h2, h3, h4, h5, h6, h7, h8]
  exact (@Cert.ReferenceIdeal.Hand.value_of_pre _ _ _ _ _ _ _ _ _ Cert.ReferenceIdeal.Hand.pre_facts (hpre c) i).trans
    (Cert.KernelIdeal.Hand.value m c i).symm

/-- The certificate's claims: the three frames, the idealization and the equation. -/
theorem claim : Cert.Claim :=
  ⟨Cert.Kernel.Gen.facts, Cert.KernelIdeal.Gen.facts, Cert.ReferenceIdeal.Gen.facts, Cert.ReferenceIdeal.Hand.pre_facts,
    fun m g _ => Cert.Kernel.Hand.frame m g,
    fun m g _ => Cert.KernelIdeal.Hand.frame m g,
    fun m g _ => Cert.KernelIdeal.Hand.frame m g,
    reference_frame,
    fun m g _ => reference_frame m g trivial,
    IdealRules.named_const.statement Cert.KernelIdeal.κ "w_grad" .f32 0x2F835419#32 _ rfl,
    algebraic⟩

end Cert.Proof

end
